-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_layer_range : Cert.Pre_layer_range.Facts] (m : (ℓ : Loc Cert.Kernel2.nD Cert.Kernel2.τ Cert.Kernel2.sig) → Buf (Elt Bits) ℓ) : Prop :=
  ∀ c : Dev Cert.Kernel2.nD,
    (Cert.Pre_layer_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_layer_range : Cert.Pre_layer_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_layer_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal [hPre_layer_range : Cert.Pre_layer_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_layer_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 [hPre_layer_range_final : Cert.Pre_layer_range_final.Facts] (m : (ℓ : Loc Cert.Kernel3.nD Cert.Kernel3.τ Cert.Kernel3.sig) → Buf (Elt Bits) ℓ) : Prop :=
  ∀ c : Dev Cert.Kernel3.nD,
    (Cert.Pre_layer_range_final.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6))) = (fun _ => 1#1)

def Pre_Kernel3Ideal [hPre_layer_range_final : Cert.Pre_layer_range_final.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_layer_range_final.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal [hPre_layer_range_final : Cert.Pre_layer_range_final.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_layer_range_final.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_layer_range : Cert.Pre_layer_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_layer_range : Cert.Pre_layer_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] [hPre_layer_range : Cert.Pre_layer_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_layer_range_final : Cert.Pre_layer_range_final.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] [hPre_layer_range_final : Cert.Pre_layer_range_final.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] [hPre_layer_range_final : Cert.Pre_layer_range_final.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "masked" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_layer_range : Cert.Pre_layer_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v79) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_layer_range_final : Cert.Pre_layer_range_final.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v94) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_layer_range : Cert.Pre_layer_range.Facts) (hPre_layer_range_final : Cert.Pre_layer_range_final.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_layer_range := hPre_layer_range)
    ∧ quiescent_Kernel2Ideal (hKernel2Ideal := hKernel2Ideal) (hPre_layer_range := hPre_layer_range)
    ∧ quiescent_Reference2Ideal (hReference2Ideal := hReference2Ideal) (hPre_layer_range := hPre_layer_range)
    ∧ quiescent_Kernel3 (hKernel3 := hKernel3) (hPre_layer_range_final := hPre_layer_range_final)
    ∧ quiescent_Kernel3Ideal (hKernel3Ideal := hKernel3Ideal) (hPre_layer_range_final := hPre_layer_range_final)
    ∧ quiescent_Reference3Ideal (hReference3Ideal := hReference3Ideal) (hPre_layer_range_final := hPre_layer_range_final)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_layer_range := hPre_layer_range)
    ∧ preserves_Kernel3_Kernel3Ideal
    ∧ algebraic_Kernel3Ideal_Reference3Ideal (hKernel3Ideal := hKernel3Ideal) (hReference3Ideal := hReference3Ideal) (hPre_layer_range_final := hPre_layer_range_final)
-- ==== Pre_layer_range.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S32768x2048 .f32) (main_arg2 : FVec F S4x1x2048 .f32) (main_arg3 : FVec F S4x2048x5632 .bf16) (main_arg4 : FVec F S4x2048x5632 .bf16) (main_arg5 : FVec F S4x5632x2048 .bf16) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Pre_layer_range_final.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S32768x2048 .f32) (main_arg2 : FVec F S4x1x2048 .f32) (main_arg3 : FVec F S4x2048x5632 .bf16) (main_arg4 : FVec F S4x2048x5632 .bf16) (main_arg5 : FVec F S4x5632x2048 .bf16) (main_arg6 : FVec F S1x2048 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 4#32
  let main_v3 : IVec S_ 1 := cmpi .slt main_v2 main_c_0
  let main_v4 : IVec S_ 1 := andi main_v1 main_v3
  main_v4
-- ==== Kernel.lean ====
abbrev S32768x512 : Shape := ⟨2, ![32768, 512]⟩
abbrev S16x2048x512 : Shape := ⟨3, ![16, 2048, 512]⟩
abbrev S16x4x2048x128 : Shape := ⟨4, ![16, 4, 2048, 128]⟩
abbrev S16x2048x128 : Shape := ⟨3, ![16, 2048, 128]⟩
abbrev S1x1024x512 : Shape := ⟨3, ![1, 1024, 512]⟩
abbrev S1x64x512 : Shape := ⟨3, ![1, 64, 512]⟩
abbrev S1x4x1024x128 : Shape := ⟨4, ![1, 4, 1024, 128]⟩
abbrev S1x1024x128 : Shape := ⟨3, ![1, 1024, 128]⟩
abbrev S1152x512 : Shape := ⟨2, ![1152, 512]⟩
abbrev S64x512 : Shape := ⟨2, ![64, 512]⟩
abbrev S1024x512 : Shape := ⟨2, ![1024, 512]⟩
abbrev S128x128 : Shape := ⟨2, ![128, 128]⟩
abbrev S128x256 : Shape := ⟨2, ![128, 256]⟩
abbrev S1x128x128 : Shape := ⟨3, ![1, 128, 128]⟩
abbrev S256x128 : Shape := ⟨2, ![256, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 12
  | .vmem => 20
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S16x2048x512, .bf16⟩
  | .hbm, ⟨4, _⟩ => ⟨S16x2048x512, .bf16⟩
  | .hbm, ⟨5, _⟩ => ⟨S16x2048x512, .bf16⟩
  | .hbm, ⟨6, _⟩ => ⟨S16x2048x512, .bf16⟩
  | .hbm, ⟨7, _⟩ => ⟨S16x2048x512, .bf16⟩
  | .hbm, ⟨8, _⟩ => ⟨S16x2048x512, .bf16⟩
  | .hbm, ⟨9, _⟩ => ⟨S16x2048x512, .bf16⟩
  | .hbm, ⟨10, _⟩ => ⟨S16x4x2048x128, .f32⟩
  | .hbm, ⟨11, _⟩ => ⟨S16x2048x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x64x512, .bf16⟩
  | .local _ .vmem, ⟨3, _⟩ => ⟨S1x64x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x64x512, .bf16⟩
  | .local _ .vmem, ⟨7, _⟩ => ⟨S1x64x512, .bf16⟩
  | .local _ .vmem, ⟨8, _⟩ => ⟨S1x64x512, .bf16⟩
  | .local _ .vmem, ⟨9, _⟩ => ⟨S1x64x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x64x512, .bf16⟩
  | .local _ .vmem, ⟨13, _⟩ => ⟨S1x64x512, .bf16⟩
  | .local _ .vmem, ⟨14, _⟩ => ⟨S1x4x1024x128, .f32⟩
  | .local _ .vmem, ⟨15, _⟩ => ⟨S1x4x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1152x512, .bf16⟩
  | .local _ .vmem, ⟨19, _⟩ => ⟨S1152x512, .bf16⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![arg0.toNat, v2.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![arg0.toNat, v2.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c16_i32 : BitVec 32 := 16#32
  let v1 : BitVec 32 := Scalar.muli v0 c16_i32
  let c31_i32 : BitVec 32 := 31#32
  let v2 : BitVec 32 := Scalar.minsi v1 c31_i32
  let c0_i32 : BitVec 32 := 0#32
  ![arg0.toNat, v2.toNat, arg2.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x4x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "masked" => some ⊥
  | _ => none
-- ==== ReferenceIdeal.lean ====
abbrev S32768x512 : Shape := ⟨2, ![32768, 512]⟩
abbrev S16x2048x8x64 : Shape := ⟨4, ![16, 2048, 8, 64]⟩
abbrev S8 : Shape := ⟨1, ![8]⟩
abbrev S_ : Shape := ⟨0, ![]⟩
abbrev S16x8x2048x2048 : Shape := ⟨4, ![16, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x1x1 : Shape := ⟨3, ![8, 1, 1]⟩
abbrev S1x2048x2048 : Shape := ⟨3, ![1, 2048, 2048]⟩
abbrev S8x2048x2048 : Shape := ⟨3, ![8, 2048, 2048]⟩
abbrev S1x1x2048x2048 : Shape := ⟨4, ![1, 1, 2048, 2048]⟩
abbrev S1x8x2048x2048 : Shape := ⟨4, ![1, 8, 2048, 2048]⟩
abbrev S16x8x2048 : Shape := ⟨3, ![16, 8, 2048]⟩
abbrev S16x8x2048x1 : Shape := ⟨4, ![16, 8, 2048, 1]⟩
abbrev S16x8x64x2048 : Shape := ⟨4, ![16, 8, 64, 2048]⟩
abbrev S16x2048x4x128 : Shape := ⟨4, ![16, 2048, 4, 128]⟩
abbrev S16x4x2048x128 : Shape := ⟨4, ![16, 4, 2048, 128]⟩
abbrev S16x2048x8 : Shape := ⟨3, ![16, 2048, 8]⟩
abbrev S16x2048x112 : Shape := ⟨3, ![16, 2048, 112]⟩
abbrev S16x2048x128 : Shape := ⟨3, ![16, 2048, 128]⟩

abbrev nBuf : Space → Nat
  | .hbm => 66
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .f32⟩
  | .hbm, ⟨4, _⟩ => ⟨S16x2048x8x64, .f32⟩
  | .hbm, ⟨5, _⟩ => ⟨S32768x512, .f32⟩
  | .hbm, ⟨6, _⟩ => ⟨S16x2048x8x64, .f32⟩
  | .hbm, ⟨7, _⟩ => ⟨S32768x512, .f32⟩
  | .hbm, ⟨8, _⟩ => ⟨S16x2048x8x64, .f32⟩
  | .hbm, ⟨9, _⟩ => ⟨S8, .i32⟩
  | .hbm, ⟨10, _⟩ => ⟨S_, .i32⟩
  | .hbm, ⟨11, _⟩ => ⟨S8, .i32⟩
  | .hbm, ⟨12, _⟩ => ⟨S8, .i32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S16x8x2048x2048, .f32⟩
  | .hbm, ⟨18, _⟩ => ⟨S2048, .i32⟩
  | .hbm, ⟨19, _⟩ => ⟨S1x2048, .i32⟩
  | .hbm, ⟨20, _⟩ => ⟨S2048, .i32⟩
  | .hbm, ⟨21, _⟩ => ⟨S2048x1, .i32⟩
  | .hbm, ⟨22, _⟩ => ⟨S2048x2048, .i32⟩
  | .hbm, ⟨23, _⟩ => ⟨S2048x2048, .i32⟩
  | .hbm, ⟨24, _⟩ => ⟨S2048x2048, .i32⟩
  | .hbm, ⟨25, _⟩ => ⟨S2048x2048, .i32⟩
  | .hbm, ⟨26, _⟩ => ⟨S_, .i32⟩
  | .hbm, ⟨27, _⟩ => ⟨S2048x2048, .i32⟩
  | .hbm, ⟨28, _⟩ => ⟨S2048x2048, .i1⟩
  | .hbm, ⟨29, _⟩ => ⟨S8x1x1, .f32⟩
  | .hbm, ⟨30, _⟩ => ⟨S8x1x1, .f32⟩
  | .hbm, ⟨31, _⟩ => ⟨S2048x2048, .i32⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .f32⟩
  | .hbm, ⟨36, _⟩ => ⟨S1x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S1x1x2048x2048, .i1⟩
  | .hbm, ⟨41, _⟩ => ⟨S1x8x2048x2048, .f32⟩
  | .hbm, ⟨42, _⟩ => ⟨S16x8x2048x2048, .f32⟩
  | .hbm, ⟨43, _⟩ => ⟨S16x8x2048x2048, .f32⟩
  | .hbm, ⟨44, _⟩ => ⟨S_, .f32⟩
  | .hbm, ⟨45, _⟩ => ⟨S_, .f32⟩
  | .hbm, ⟨46, _⟩ => ⟨S16x8x2048x2048, .i1⟩
  | .hbm, ⟨47, _⟩ => ⟨S16x8x2048x2048, .f32⟩
  | .hbm, ⟨48, _⟩ => ⟨S16x8x2048x2048, .f32⟩
  | .hbm, ⟨49, _⟩ => ⟨S_, .f32⟩
  | .hbm, ⟨50, _⟩ => ⟨S16x8x2048, .f32⟩
  | .hbm, ⟨51, _⟩ => ⟨S16x8x2048x1, .f32⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S_, .f32⟩
  | .hbm, ⟨56, _⟩ => ⟨S16x8x2048, .f32⟩
  | .hbm, ⟨57, _⟩ => ⟨S16x8x64x2048, .f32⟩
  | .hbm, ⟨58, _⟩ => ⟨S16x2048x8x64, .f32⟩
  | .hbm, ⟨59, _⟩ => ⟨S16x2048x4x128, .f32⟩
  | .hbm, ⟨60, _⟩ => ⟨S16x4x2048x128, .f32⟩
  | .hbm, ⟨61, _⟩ => ⟨S16x2048x8, .f32⟩
  | .hbm, ⟨62, _⟩ => ⟨S16x2048x8, .f32⟩
  | .hbm, ⟨63, _⟩ => ⟨S_, .f32⟩
  | .hbm, ⟨64, _⟩ => ⟨S16x2048x112, .f32⟩
  | .hbm, ⟨65, _⟩ => ⟨S16x2048x128, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_call0_v0 : Ref sig .tc := ⟨.hbm, 45, rfl⟩
abbrev main_call0_v1 : Ref sig .tc := ⟨.hbm, 46, rfl⟩
abbrev main_call0_v2 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel2.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1x2048 : Shape := ⟨2, ![1, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 6
  | .vmem => 12
  | .smem => 1
  | _ => 0

abbrev bufTy : (tb : Table) → Fin (tcTables nBuf tb) → BufTy
  | .hbm, ⟨0, _⟩ => ⟨S32768x2048, .f32⟩
  | .hbm, ⟨1, _⟩ => ⟨S4x1x2048, .f32⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | .local _ .smem, ⟨0, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S_ : Shape := ⟨0, ![]⟩
abbrev S4x2048 : Shape := ⟨2, ![4, 2048]⟩
abbrev S1x2048 : Shape := ⟨2, ![1, 2048]⟩
abbrev S2048 : Shape := ⟨1, ![2048]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 96
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x2048, .f32⟩
  | .hbm, ⟨2, _⟩ => ⟨S4x1x2048, .f32⟩
  | .hbm, ⟨3, _⟩ => ⟨S4x2048x5632, .bf16⟩
  | .hbm, ⟨4, _⟩ => ⟨S4x2048x5632, .bf16⟩
  | .hbm, ⟨5, _⟩ => ⟨S4x5632x2048, .bf16⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i1⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i1⟩
  | .hbm, ⟨15, _⟩ => ⟨S4x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S2048, .f32⟩
  | .hbm, ⟨24, _⟩ => ⟨S1x2048, .f32⟩
  | .hbm, ⟨25, _⟩ => ⟨S2048, .f32⟩
  | .hbm, ⟨26, _⟩ => ⟨S2048, .f32⟩
  | .hbm, ⟨27, _⟩ => ⟨S32768x2048, .f32⟩
  | .hbm, ⟨28, _⟩ => ⟨S_, .f32⟩
  | .hbm, ⟨29, _⟩ => ⟨S32768, .f32⟩
  | .hbm, ⟨30, _⟩ => ⟨S32768x1, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S32768x1, .f32⟩
  | .hbm, ⟨38, _⟩ => ⟨S32768x2048, .f32⟩
  | .hbm, ⟨39, _⟩ => ⟨S32768x2048, .f32⟩
  | .hbm, ⟨40, _⟩ => ⟨S1x2048, .f32⟩
  | .hbm, ⟨41, _⟩ => ⟨S32768x2048, .f32⟩
  | .hbm, ⟨42, _⟩ => ⟨S32768x2048, .f32⟩
  | .hbm, ⟨43, _⟩ => ⟨S1x2048x5632, .bf16⟩
  | .hbm, ⟨44, _⟩ => ⟨S2048x5632, .bf16⟩
  | .hbm, ⟨45, _⟩ => ⟨S1x2048x5632, .bf16⟩
  | .hbm, ⟨46, _⟩ => ⟨S2048x5632, .bf16⟩
  | .hbm, ⟨47, _⟩ => ⟨S2048x5632, .bf16⟩
  | .hbm, ⟨48, _⟩ => ⟨S1x2048x5632, .bf16⟩
  | .hbm, ⟨49, _⟩ => ⟨S2048x5632, .bf16⟩
  | .hbm, ⟨50, _⟩ => ⟨S2048x5632, .bf16⟩
  | .hbm, ⟨51, _⟩ => ⟨S1x2048x5632, .bf16⟩
  | .hbm, ⟨52, _⟩ => ⟨S2048x5632, .bf16⟩
  | .hbm, ⟨53, _⟩ => ⟨S2048x5632, .bf16⟩
  | .hbm, ⟨54, _⟩ => ⟨S2048x5632, .f32⟩
  | .hbm, ⟨55, _⟩ => ⟨S1x2048x5632, .bf16⟩
  | .hbm, ⟨56, _⟩ => ⟨S2048x5632, .bf16⟩
  | .hbm, ⟨57, _⟩ => ⟨S1x2048x5632, .bf16⟩
  | .hbm, ⟨58, _⟩ => ⟨S2048x5632, .bf16⟩
  | .hbm, ⟨59, _⟩ => ⟨S2048x5632, .bf16⟩
  | .hbm, ⟨60, _⟩ => ⟨S1x2048x5632, .bf16⟩
  | .hbm, ⟨61, _⟩ => ⟨S2048x5632, .bf16⟩
  | .hbm, ⟨62, _⟩ => ⟨S2048x5632, .bf16⟩
  | .hbm, ⟨63, _⟩ => ⟨S1x2048x5632, .bf16⟩
  | .hbm, ⟨64, _⟩ => ⟨S2048x5632, .bf16⟩
  | .hbm, ⟨65, _⟩ => ⟨S2048x5632, .bf16⟩
  | .hbm, ⟨66, _⟩ => ⟨S2048x5632, .f32⟩
  | .hbm, ⟨67, _⟩ => ⟨S1x5632x2048, .bf16⟩
  | .hbm, ⟨68, _⟩ => ⟨S5632x2048, .bf16⟩
  | .hbm, ⟨69, _⟩ => ⟨S1x5632x2048, .bf16⟩
  | .hbm, ⟨70, _⟩ => ⟨S5632x2048, .bf16⟩
  | .hbm, ⟨71, _⟩ => ⟨S5632x2048, .bf16⟩
  | .hbm, ⟨72, _⟩ => ⟨S1x5632x2048, .bf16⟩
  | .hbm, ⟨73, _⟩ => ⟨S5632x2048, .bf16⟩
  | .hbm, ⟨74, _⟩ => ⟨S5632x2048, .bf16⟩
  | .hbm, ⟨75, _⟩ => ⟨S1x5632x2048, .bf16⟩
  | .hbm, ⟨76, _⟩ => ⟨S5632x2048, .bf16⟩
  | .hbm, ⟨77, _⟩ => ⟨S5632x2048, .bf16⟩
  | .hbm, ⟨78, _⟩ => ⟨S5632x2048, .f32⟩
  | .hbm, ⟨79, _⟩ => ⟨S32768x5632, .f32⟩
  | .hbm, ⟨80, _⟩ => ⟨S32768x5632, .f32⟩
  | .hbm, ⟨81, _⟩ => ⟨S32768x5632, .f32⟩
  | .hbm, ⟨82, _⟩ => ⟨S_, .f32⟩
  | .hbm, ⟨83, _⟩ => ⟨S32768x5632, .f32⟩
  | .hbm, ⟨84, _⟩ => ⟨S32768x5632, .f32⟩
  | .hbm, ⟨85, _⟩ => ⟨S_, .f32⟩
  | .hbm, ⟨86, _⟩ => ⟨S32768x5632, .f32⟩
  | .hbm, ⟨87, _⟩ => ⟨S32768x5632, .f32⟩
  | .hbm, ⟨88, _⟩ => ⟨S32768x5632, .f32⟩
  | .hbm, ⟨89, _⟩ => ⟨S32768x5632, .f32⟩
  | .hbm, ⟨90, _⟩ => ⟨S32768x5632, .f32⟩
  | .hbm, ⟨91, _⟩ => ⟨S32768x2048, .f32⟩
  | .hbm, ⟨92, _⟩ => ⟨S_, .f32⟩
  | .hbm, ⟨93, _⟩ => ⟨S32768x2048, .f32⟩
  | .hbm, ⟨94, _⟩ => ⟨S32768x2048, .f32⟩
  | .hbm, ⟨95, _⟩ => ⟨S32768x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_c_1 : Ref sig .tc := ⟨.hbm, 11, rfl⟩
abbrev main_v3 : Ref sig .tc := ⟨.hbm, 12, rfl⟩
abbrev main_c_2 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_5 : Ref sig .tc := ⟨.hbm, 82, rfl⟩
abbrev main_v69 : Ref sig .tc := ⟨.hbm, 83, rfl⟩
abbrev main_v70 : Ref sig .tc := ⟨.hbm, 84, rfl⟩
abbrev main_cst_6 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_7 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== Kernel3.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S1024x2048 : Shape := ⟨2, ![1024, 2048]⟩
abbrev S1x1x2048 : Shape := ⟨3, ![1, 1, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 13
  | .smem => 1
  | _ => 0

abbrev bufTy : (tb : Table) → Fin (tcTables nBuf tb) → BufTy
  | .hbm, ⟨0, _⟩ => ⟨S32768x2048, .f32⟩
  | .hbm, ⟨1, _⟩ => ⟨S4x1x2048, .f32⟩
  | .hbm, ⟨2, _⟩ => ⟨S4x2048x5632, .bf16⟩
  | .hbm, ⟨3, _⟩ => ⟨S4x2048x5632, .bf16⟩
  | .hbm, ⟨4, _⟩ => ⟨S4x5632x2048, .bf16⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x512x2048, .bf16⟩
  | .local _ .vmem, ⟨8, _⟩ => ⟨S1x512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | .local _ .smem, ⟨0, _⟩ => ⟨S1, .i32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) (v7 : BitVec 32) : BitVec 1 :=
  let arg1 : BitVec 32 := BitVec.ofNat 32 (i 1).val
  let c10_i32 : BitVec 32 := 10#32
  let v6 : BitVec 1 := Scalar.cmpi .eq arg1 c10_i32
  let c3_i32 : BitVec 32 := 3#32
  let v8 : BitVec 1 := Scalar.cmpi .eq v7 c3_i32
  let v9 : BitVec 1 := Scalar.andi v6 v8
  let v10 : BitVec 32 := Scalar.extui v9
  let c0_i32_3 : BitVec 32 := 0#32
  let v11 : BitVec 1 := Scalar.cmpi .ne v10 c0_i32_3
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S1 : Shape := ⟨1, ![1]⟩
abbrev S32768x2048 : Shape := ⟨2, ![32768, 2048]⟩
abbrev S4x1x2048 : Shape := ⟨3, ![4, 1, 2048]⟩
abbrev S4x2048x5632 : Shape := ⟨3, ![4, 2048, 5632]⟩
abbrev S4x5632x2048 : Shape := ⟨3, ![4, 5632, 2048]⟩
abbrev S1x2048 : Shape := ⟨2, ![1, 2048]⟩
abbrev S_ : Shape := ⟨0, ![]⟩
abbrev S4x2048 : Shape := ⟨2, ![4, 2048]⟩
abbrev S2048 : Shape := ⟨1, ![2048]⟩
abbrev S32768 : Shape := ⟨1, ![32768]⟩
abbrev S32768x1 : Shape := ⟨2, ![32768, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S32768x5632 : Shape := ⟨2, ![32768, 5632]⟩

abbrev nBuf : Space → Nat
  | .hbm => 115
  | .vmem => 0
  | .smem => 0
  | _ => 0

abbrev bufTy : (tb : Table) → Fin (tcTables nBuf tb) → BufTy
  | .hbm, ⟨0, _⟩ => ⟨S1, .i32⟩
  | .hbm, ⟨1, _⟩ => ⟨S32768x2048, .f32⟩
  | .hbm, ⟨2, _⟩ => ⟨S4x1x2048, .f32⟩
  | .hbm, ⟨3, _⟩ => ⟨S4x2048x5632, .bf16⟩
  | .hbm, ⟨4, _⟩ => ⟨S4x2048x5632, .bf16⟩
  | .hbm, ⟨5, _⟩ => ⟨S4x5632x2048, .bf16⟩
  | .hbm, ⟨6, _⟩ => ⟨S1x2048, .f32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i1⟩
  | .hbm, ⟨16, _⟩ => ⟨S4x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S2048, .f32⟩
  | .hbm, ⟨28, _⟩ => ⟨S32768x2048, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x2048, .f32⟩
  | .hbm, ⟨40, _⟩ => ⟨S32768x2048, .f32⟩
  | .hbm, ⟨41, _⟩ => ⟨S1x2048, .f32⟩
  | .hbm, ⟨42, _⟩ => ⟨S32768x2048, .f32⟩
  | .hbm, ⟨43, _⟩ => ⟨S32768x2048, .f32⟩
  | .hbm, ⟨44, _⟩ => ⟨S1x2048x5632, .bf16⟩
  | .hbm, ⟨45, _⟩ => ⟨S2048x5632, .bf16⟩
  | .hbm, ⟨46, _⟩ => ⟨S1x2048x5632, .bf16⟩
  | .hbm, ⟨47, _⟩ => ⟨S2048x5632, .bf16⟩
  | .hbm, ⟨48, _⟩ => ⟨S2048x5632, .bf16⟩
  | .hbm, ⟨49, _⟩ => ⟨S1x2048x5632, .bf16⟩
  | .hbm, ⟨50, _⟩ => ⟨S2048x5632, .bf16⟩
  | .hbm, ⟨51, _⟩ => ⟨S2048x5632, .bf16⟩
  | .hbm, ⟨52, _⟩ => ⟨S1x2048x5632, .bf16⟩
  | .hbm, ⟨53, _⟩ => ⟨S2048x5632, .bf16⟩
  | .hbm, ⟨54, _⟩ => ⟨S2048x5632, .bf16⟩
  | .hbm, ⟨55, _⟩ => ⟨S2048x5632, .f32⟩
  | .hbm, ⟨56, _⟩ => ⟨S1x2048x5632, .bf16⟩
  | .hbm, ⟨57, _⟩ => ⟨S2048x5632, .bf16⟩
  | .hbm, ⟨58, _⟩ => ⟨S1x2048x5632, .bf16⟩
  | .hbm, ⟨59, _⟩ => ⟨S2048x5632, .bf16⟩
  | .hbm, ⟨60, _⟩ => ⟨S2048x5632, .bf16⟩
  | .hbm, ⟨61, _⟩ => ⟨S1x2048x5632, .bf16⟩
  | .hbm, ⟨62, _⟩ => ⟨S2048x5632, .bf16⟩
  | .hbm, ⟨63, _⟩ => ⟨S2048x5632, .bf16⟩
  | .hbm, ⟨64, _⟩ => ⟨S1x2048x5632, .bf16⟩
  | .hbm, ⟨65, _⟩ => ⟨S2048x5632, .bf16⟩
  | .hbm, ⟨66, _⟩ => ⟨S2048x5632, .bf16⟩
  | .hbm, ⟨67, _⟩ => ⟨S2048x5632, .f32⟩
  | .hbm, ⟨68, _⟩ => ⟨S1x5632x2048, .bf16⟩
  | .hbm, ⟨69, _⟩ => ⟨S5632x2048, .bf16⟩
  | .hbm, ⟨70, _⟩ => ⟨S1x5632x2048, .bf16⟩
  | .hbm, ⟨71, _⟩ => ⟨S5632x2048, .bf16⟩
  | .hbm, ⟨72, _⟩ => ⟨S5632x2048, .bf16⟩
  | .hbm, ⟨73, _⟩ => ⟨S1x5632x2048, .bf16⟩
  | .hbm, ⟨74, _⟩ => ⟨S5632x2048, .bf16⟩
  | .hbm, ⟨75, _⟩ => ⟨S5632x2048, .bf16⟩
  | .hbm, ⟨76, _⟩ => ⟨S1x5632x2048, .bf16⟩
  | .hbm, ⟨77, _⟩ => ⟨S5632x2048, .bf16⟩
  | .hbm, ⟨78, _⟩ => ⟨S5632x2048, .bf16⟩
  | .hbm, ⟨79, _⟩ => ⟨S5632x2048, .f32⟩
  | .hbm, ⟨80, _⟩ => ⟨S32768x5632, .f32⟩
  | .hbm, ⟨81, _⟩ => ⟨S32768x5632, .f32⟩
  | .hbm, ⟨82, _⟩ => ⟨S32768x5632, .f32⟩
  | .hbm, ⟨83, _⟩ => ⟨S_, .f32⟩
  | .hbm, ⟨84, _⟩ => ⟨S32768x5632, .f32⟩
  | .hbm, ⟨85, _⟩ => ⟨S32768x5632, .f32⟩
  | .hbm, ⟨86, _⟩ => ⟨S_, .f32⟩
  | .hbm, ⟨87, _⟩ => ⟨S32768x5632, .f32⟩
  | .hbm, ⟨88, _⟩ => ⟨S32768x5632, .f32⟩
  | .hbm, ⟨89, _⟩ => ⟨S32768x5632, .f32⟩
  | .hbm, ⟨90, _⟩ => ⟨S32768x5632, .f32⟩
  | .hbm, ⟨91, _⟩ => ⟨S32768x5632, .f32⟩
  | .hbm, ⟨92, _⟩ => ⟨S32768x2048, .f32⟩
  | .hbm, ⟨93, _⟩ => ⟨S_, .f32⟩
  | .hbm, ⟨94, _⟩ => ⟨S32768x2048, .f32⟩
  | .hbm, ⟨95, _⟩ => ⟨S32768x2048, .f32⟩
  | .hbm, ⟨96, _⟩ => ⟨S32768x2048, .f32⟩
  | .hbm, ⟨97, _⟩ => ⟨S2048, .f32⟩
  | .hbm, ⟨98, _⟩ => ⟨S32768x2048, .f32⟩
  | .hbm, ⟨99, _⟩ => ⟨S_, .f32⟩
  | .hbm, ⟨100, _⟩ => ⟨S32768, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | .hbm, ⟨105, _⟩ => ⟨S_, .f32⟩
  | .hbm, ⟨106, _⟩ => ⟨S32768x1, .f32⟩
  | .hbm, ⟨107, _⟩ => ⟨S32768x1, .f32⟩
  | .hbm, ⟨108, _⟩ => ⟨S32768x1, .f32⟩
  | .hbm, ⟨109, _⟩ => ⟨S32768x2048, .f32⟩
  | .hbm, ⟨110, _⟩ => ⟨S32768x2048, .f32⟩
  | .hbm, ⟨111, _⟩ => ⟨S1x2048, .f32⟩
  | .hbm, ⟨112, _⟩ => ⟨S32768x2048, .f32⟩
  | .hbm, ⟨113, _⟩ => ⟨S32768x2048, .f32⟩
  | .hbm, ⟨114, _⟩ => ⟨S32768x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_c_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_cst_6 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_7 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_8 : Ref sig .tc := ⟨.hbm, 99, rfl⟩
abbrev main_v82 : Ref sig .tc := ⟨.hbm, 100, rfl⟩
abbrev main_v83 : Ref sig .tc := ⟨.hbm, 101, rfl⟩
abbrev main_cst_9 : Ref sig .tc := ⟨.hbm, 102, rfl⟩
abbrev main_v84 : Ref sig .tc := ⟨.hbm, 103, rfl⟩
abbrev main_v85 : Ref sig .tc := ⟨.hbm, 104, rfl⟩
abbrev main_cst_10 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩

abbrev nD : Nat := 1
abbrev τ : Topo := Topo.v7x

variable {F : FTy → Type} [FloatOps F]
-- ==== Proof.Attn.Tile.lean ====
module

public import proofs.«01_k».proof.Proof.Gen.KernelIdeal.Value

/-!
# The attention kernel's block, tile by tile

The body at a grid point fills its two output blocks by 32 and 8 stores. Here each stored value is named by ONE
family of functions: a score tile of 128 queries against a window of 256 keys, its row maximum, its weights, its row
sum and its numerator. `out7_eq` and `out8_eq` say that the blocks are the canonical contents of these tiles.
-/

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The distance `|r + 64 - c|` of query row `r` of a tile from column `c` of its key window. -/
def adist : IVec S128x256 32 :=
  absi (subi (addi (iota .tc S128x256 32 [0] iota_S128x256_d0_w32) (broadcast S128x256 64#32))
    (iota .tc S128x256 32 [1] iota_S128x256_d1_w32))

/-- The key row under column `c`: the block's first row plus `off` plus `c`. -/
def keyRow (i : grid0.Coords) (off : BitVec 32) : IVec S128x256 32 :=
  addi (broadcast S128x256 (Scalar.addi (Scalar.muli (BitVec.ofNat 32 (i 1)) 1024#32) off))
    (iota .tc S128x256 32 [1] iota_S128x256_d1_w32)

/-- Which columns a row attends to: at distance at most 64, and inside the sequence. -/
def valid (i : grid0.Coords) (off : BitVec 32) : IVec S128x256 1 :=
  andi (cmpi .sle adist (broadcast S128x256 64#32))
    (andi (cmpi .sge (keyRow i off) (broadcast S128x256 0#32)) (cmpi .slt (keyRow i off) (broadcast S128x256 2048#32)))

/-- The distance as a float. -/
def dist : FVec F S128x256 .f32 := sitofp .f32 (muli adist (broadcast S128x256 1#32))

/-- The lanes of a head pair's first head. -/
def lanesLo : IVec S128x128 1 := cmpi .slt (iota .tc S128x128 32 [1] iota_S128x128_d1_w32) (broadcast S128x128 64#32)

/-- The lanes of its second head. -/
def lanesHi : IVec S128x128 1 := cmpi .sge (iota .tc S128x128 32 [1] iota_S128x128_d1_w32) (broadcast S128x128 64#32)

/-- The score tile of one head: queries (other head's lanes zeroed) against the window's keys, less the head's slope
    times the distance, masked off the band. -/
def score (mine : IVec S128x128 1) (slope : BitVec 32) (i : grid0.Coords) (off : BitVec 32)
    (q : FVec F S128x128 .bf16) (k : FVec F S256x128 .bf16) : FVec F S128x256 .f32 :=
  select (valid i off)
    (subf
      (matmul dot_S128x128_S256x128_S128x256_1_1_0_0_n_n none
        (select mine q (broadcast S128x128 (Scalar.ofBits .bf16 0x0000#16))) k (constant S128x256 .f32 0x00000000#32))
      (mulf (broadcast S128x256 (Scalar.ofBits .f32 slope)) dist))
    (broadcast S128x256 (Named.named κ "masked" 0xF149F2CA#32))

/-- A score tile's row maximum. -/
def rowMax (s : FVec F S128x256 .f32) : FVec F S128x1 .f32 :=
  shapeCast S128x1 (multiReduction .maximumf [1] S128 s 0xFF800000#32 reduces_S128x256_S128 (.inl rfl) rfl)
    shapeCasts_S128_S128x1

/-- Its weights: the exponential of the score less the row's maximum. -/
def weights (s : FVec F S128x256 .f32) : FVec F S128x256 .f32 :=
  exp (subf s (broadcastTo S128x256 (rowMax s) broadcasts_S128x1_S128x256))

/-- Its row sum of the weights. -/
def rowSum (s : FVec F S128x256 .f32) : FVec F S128x1 .f32 :=
  shapeCast S128x1 (multiReduction .add [1] S128 (weights s) 0x00000000#32 reduces_S128x256_S128 (.inl rfl) rfl)
    shapeCasts_S128_S128x1

/-- Its numerator: the weights times the window's values. -/
def numer (s : FVec F S128x256 .f32) (v : FVec F S256x128 .bf16) : FVec F S128x128 .f32 :=
  matmul dot_S128x256_S256x128_S128x128_1_0_0_1_n_n none (truncf .bf16 (weights s) bitsLt_bf16_f32) v
    (constant S128x128 .f32 0x00000000#32)

/-- What is stored for a head pair: the first head's numerator in its lanes, the second head's in the others. -/
def accTile (s0 s1 : FVec F S128x256 .f32) (v : FVec F S256x128 .bf16) : FVec F S1x1x128x128 .f32 :=
  shapeCast S1x1x128x128 (select lanesHi (numer s1 v) (numer s0 v)) shapeCasts_S128x128_S1x1x128x128

/-- `old` with lane `n` replaced by the column `x`. -/
def putLane (n : BitVec 32) (x : FVec F S128x1 .f32) (old : FVec F S128x128 .f32) : FVec F S128x128 .f32 :=
  select (cmpi .eq (iota .tc S128x128 32 [1] iota_S128x128_d1_w32) (broadcast S128x128 n))
    (broadcastTo S128x128 (shapeCast S128x1 x shapeCasts_S128x1_S128x1) broadcasts_S128x1_S128x128) old

/-- One head's row maximum in lane `n`, its row sum in lane `n'`. -/
def putHead (n n' : BitVec 32) (s : FVec F S128x256 .f32) (old : FVec F S128x128 .f32) : FVec F S128x128 .f32 :=
  putLane n' (rowSum s) (putLane n (rowMax s) old)

/-- What is stored of the eight heads' statistics: head `h`'s maximum in lane `h`, its sum in lane `8 + h`. -/
def stTile (s0 s1 s2 s3 s4 s5 s6 s7 : FVec F S128x256 .f32) : FVec F S1x128x128 .f32 :=
  shapeCast S1x128x128
    (putHead 7#32 15#32 s7 (putHead 6#32 14#32 s6 (putHead 5#32 13#32 s5 (putHead 4#32 12#32 s4
      (putHead 3#32 11#32 s3 (putHead 2#32 10#32 s2 (putHead 1#32 9#32 s1 (putHead 0#32 8#32 s0
        (broadcast S128x128 (Scalar.ofBits .f32 0x00000000#32)))))))))) shapeCasts_S128x128_S1x128x128

theorem inb_q (a hp : ℕ) (ha : a < 8) (hh : hp < 4) :
    ∀ d, (![0, 128 * a, 128 * hp] : Fin 3 → ℕ) d + S1x128x128.size d ≤ S1x1024x512.size d := by
  intro d; fin_cases d
  · exact Nat.le_refl 1
  · show 128 * a + 128 ≤ 1024; omega
  · show 128 * hp + 128 ≤ 512; omega

theorem inb_w (a hp : ℕ) (ha : a < 8) (hh : hp < 4) :
    ∀ d, (![128 * a, 128 * hp] : Fin 2 → ℕ) d + S256x128.size d ≤ S1152x512.size d := by
  intro d; fin_cases d
  · show 128 * a + 256 ≤ 1152; omega
  · show 128 * hp + 128 ≤ 512; omega

theorem inb_acc (a hp : ℕ) (ha : a < 8) (hh : hp < 4) :
    ∀ d, (![0, hp, 128 * a, 0] : Fin 4 → ℕ) d + (![1, 1, 128, 128] : Fin 4 → ℕ) d ≤ S1x4x1024x128.size d := by
  intro d; fin_cases d
  · exact Nat.le_refl 1
  · show hp + 1 ≤ 4; omega
  · show 128 * a + 128 ≤ 1024; omega
  · exact Nat.le_refl 128

theorem inb_st (a : ℕ) (ha : a < 8) :
    ∀ d, (![0, 128 * a, 0] : Fin 3 → ℕ) d + (![1, 128, 128] : Fin 3 → ℕ) d ≤ S1x1024x128.size d := by
  intro d; fin_cases d
  · exact Nat.le_refl 1
  · show 128 * a + 128 ≤ 1024; omega
  · exact Nat.le_refl 128

/-- The 64 rows after the block, stored last. -/
def nextPiece (xn : Vec F S1x64x512 .bf16) : View.Piece (Elt F) S1152x512 .bf16 :=
  ⟨Rect.unit (s := S1152x512) ![1088, 0] S64x512.size inb_S1152x512_S64x512_1088_0, shapeCast S64x512 (shapeCast S64x512 xn
      shapeCasts_S1x64x512_S64x512) shapeCasts_S64x512_S64x512⟩

/-- The block's own rows. -/
def ownPiece (x : Vec F S1x1024x512 .bf16) : View.Piece (Elt F) S1152x512 .bf16 :=
  ⟨Rect.unit (s := S1152x512) ![64, 0] S1024x512.size inb_S1152x512_S1024x512_64_0, shapeCast S1024x512 (shapeCast S1024x512 x
      shapeCasts_S1x1024x512_S1024x512) shapeCasts_S1024x512_S1024x512⟩

/-- The 64 rows before the block. -/
def prevPiece (xp : Vec F S1x64x512 .bf16) : View.Piece (Elt F) S1152x512 .bf16 :=
  ⟨Rect.unit (s := S1152x512) ![0, 0] S64x512.size inb_S1152x512_S64x512_0_0, shapeCast S64x512 (shapeCast S64x512 xp
      shapeCasts_S1x64x512_S64x512) shapeCasts_S64x512_S64x512⟩

/-- The three blocks a window buffer is filled with: the rows before, the block's own, the rows after. -/
def bufPieces (xp : Vec F S1x64x512 .bf16) (x : Vec F S1x1024x512 .bf16) (xn : Vec F S1x64x512 .bf16) :
    List (View.Piece (Elt F) S1152x512 .bf16) :=
  [nextPiece xn, ownPiece x, prevPiece xp]

/-- Tile `a`'s window of a buffer, at head pair `hp`'s lanes. -/
def win (L : List (View.Piece (Elt F) S1152x512 .bf16)) (a hp : ℕ) (ha : a < 8) (hh : hp < 4) : FVec F S256x128 .bf16 :=
  fun j => View.canon L ((Rect.unit (s := S1152x512) ![128 * a, 128 * hp] S256x128.size (inb_w a hp ha hh)).idx j)

/-- Tile `a`'s queries, at head pair `hp`'s lanes. -/
def qTile (x : Vec F S1x1024x512 .bf16) (a hp : ℕ) (ha : a < 8) (hh : hp < 4) : FVec F S128x128 .bf16 :=
  shapeCast S128x128 (View.ld x (Rect.unit (s := S1x1024x512) ![0, 128 * a, 128 * hp] S1x128x128.size (inb_q a hp ha hh)))
    shapeCasts_S1x128x128_S128x128

end Cert.Attn

end
-- ==== Proof.Attn.Block.lean ====
module

public import proofs.«01_k».proof.Proof.Attn.Tile

/-!
# The attention kernel's output blocks are the canonical contents of their tiles
-/

@[expose] public section

set_option maxRecDepth 16384

noncomputable section

namespace Cert.Attn

open Idealize.ShloMosaic Idealize.ShloMosaic.TcCoe Idealize.ShloMosaic.Tactic
open Cert.KernelIdeal Cert.KernelIdeal.Gen

variable {F : FTy → Type} [FloatOps F] [Named F]

/-- The bits of head `h`'s slope, the power of two `2 ^ -(h + 1)`. -/
def slopeBits (h : ℕ) : BitVec 32 := BitVec.ofNat 32 (0x3F000000 - h * 0x00800000)

/-- The offset of tile `a`'s first key row from the block's first row, `128 a - 64`, as a word. -/
def tileOff (a : ℕ) : BitVec 32 := BitVec.ofNat 32 (128 * a + 4294967232)

/-- The score tile of head pair `hp`'s first head, queries `128 a … 128 a + 127` of the block. -/
def scoreLo (i : grid0.Coords) (xq : Vec F S1x1024x512 .bf16) (K : List (View.Piece (Elt F) S1152x512 .bf16))
    (a hp : ℕ) (ha : a < 8) (hh : hp < 4) : FVec F S128x256 .f32 :=
  score lanesLo (slopeBits (2 * hp)) i (tileOff a) (qTile xq a hp ha hh) (win K a hp ha hh)

/-- The score tile of its second head. -/
def scoreHi (i : grid0.Coords) (xq : Vec F S1x1024x512 .bf16) (K : List (View.Piece (Elt F) S1152x512 .bf16))
    (a hp : ℕ) (ha : a < 8) (hh : hp < 4) : FVec F S128x256 .f32 :=
  score lanesHi (slopeBits (2 * hp + 1)) i (tileOff a) (qTile xq a hp ha hh) (win K a hp ha hh)

/-- The store of tile `a`, head pair `hp`. -/
def accPiece (i : grid0.Coords) (xq : Vec F S1x1024x512 .bf16) (K V : List (View.Piece (Elt F) S1152x512 .bf16))
    (a hp : ℕ) (ha : a < 8) (hh : hp < 4) : View.Piece (Elt F) S1x4x1024x128 .f32 :=
  ⟨Rect.unit (s := S1x4x1024x128) ![0, hp, 128 * a, 0] ![1, 1, 128, 128] (inb_acc a hp ha hh),
    accTile (scoreLo i xq K a hp ha hh) (scoreHi i xq K a hp ha hh) (win V a hp ha hh)⟩

/-- The store of tile `a`'s statistics. -/
def stPiece (i : grid0.Coords) (xq : Vec F S1x1024x512 .bf16) (K : List (View.Piece (Elt F) S1152x512 .bf16))
    (a : ℕ) (ha : a < 8) : View.Piece (Elt F) S1x1024x128 .f32 :=
  ⟨Rect.unit (s := S1x1024x128) ![0, 128 * a, 0] ![1, 128, 128] (inb_st a ha),
    stTile (scoreLo i xq K a 0 ha (by decide)) (scoreHi i xq K a 0 ha (by decide))
      (scoreLo i xq K a 1 ha (by decide)) (scoreHi i xq K a 1 ha (by decide))
      (scoreLo i xq K a 2 ha (by decide)) (scoreHi i xq K a 2 ha (by decide))
      (scoreLo i xq K a 3 ha (by decide)) (scoreHi i xq K a 3 ha (by decide))⟩

/-- The four stores of tile `a`, last first. -/
def accRow (i : grid0.Coords) (xq : Vec F S1x1024x512 .bf16) (K V : List (View.Piece (Elt F) S1152x512 .bf16))
    (a : ℕ) (ha : a < 8) : List (View.Piece (Elt F) S1x4x1024x128 .f32) :=
  [accPiece i xq K V a 3 ha (by decide), accPiece i xq K V a 2 ha (by decide), accPiece i xq K V a 1 ha (by decide),
    accPiece i xq K V a 0 ha (by decide)]

variable (c : Dev nD) (i : grid0.Coords) (arg3 : Memref sig .tc .vmem S1x1024x512 .bf16) (harg3 : arg3.IsWhole) (arg4 : Memref sig .tc .vmem S1x64x512 .bf16) (harg4 : arg4.IsWhole) (arg5 : Memref sig .tc .vmem S1x1024x512 .bf16) (harg5 : arg5.IsWhole) (arg6 : Memref sig .tc .vmem S1x64x512 .bf16) (harg6 : arg6.IsWhole) (arg7 : Memref sig .tc .vmem S1x64x512 .bf16) (harg7 : arg7.IsWhole) (arg8 : Memref sig .tc .vmem S1x1024x512 .bf16) (harg8 : arg8.IsWhole) (arg9 : Memref sig .tc .vmem S1x64x512 .bf16) (harg9 : arg9.IsWhole) (arg10 : Memref sig .tc .vmem S1x4x1024x128 .f32) (harg10 : arg10.IsWhole) (arg11 : Memref sig .tc .vmem S1x1024x128 .f32) (harg11 : arg11.IsWhole) (arg12 : Memref sig .tc .vmem S1152x512 .bf16) (harg12 : arg12.IsWhole) (arg13 : Memref sig .tc .vmem S1152x512 .bf16) (harg13 : arg13.IsWhole)
    (x0 : Vec F S1x1024x512 .bf16) (x1 : Vec F S1x64x512 .bf16) (x2 : Vec F S1x1024x512 .bf16) (x3 : Vec F S1x64x512 .bf16) (x4 : Vec F S1x64x512 .bf16) (x5 : Vec F S1x1024x512 .bf16) (x6 : Vec F S1x64x512 .bf16)

set_option maxHeartbeats 4000000 in
/-- The first output's block: the 32 accumulator tiles. -/
theorem out7_eq : out0_A_7 c i arg3 harg3 arg4 harg4 arg5 harg5 arg6 harg6 arg7 harg7 arg8 harg8 arg9 harg9 arg10 harg10 arg11 harg11 arg12 harg12 arg13 harg13 x0 x1 x2 x3 x4 x5 x6
    = View.canon (accRow i x0 (bufPieces x1 x2 x3) (bufPieces x4 x5 x6) 7 (by decide)
      ++ accRow i x0 (bufPieces x1 x2 x3) (bufPieces x4 x5 x6) 6 (by decide)
      ++ accRow i x0 (bufPieces x1 x2 x3) (bufPieces x4 x5 x6) 5 (by decide)
      ++ accRow i x0 (bufPieces x1 x2 x3) (bufPieces x4 x5 x6) 4 (by decide)
      ++ accRow i x0 (bufPieces x1 x2 x3) (bufPieces x4 x5 x6) 3 (by decide)
      ++ accRow i x0 (bufPieces x1 x2 x3) (bufPieces x4 x5 x6) 2 (by decide)
      ++ accRow i x0 (bufPieces x1 x2 x3) (bufPieces x4 x5 x6) 1 (by decide)
      ++ accRow i x0 (bufPieces x1 x2 x3) (bufPieces x4 x5 x6) 0 (by decide)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  simp only [View.readCov_eq_canon', View.readAt_eq_ld, harg3.read_unread, harg4.read_unread, harg5.read_unread,
    harg6.read_unread, harg7.read_unread, harg8.read_unread, harg9.read_unread,
    View.ld_unit_zero (S := S1x64x512) (off := ![0, 0, 0]) (by funext d; fin_cases d <;> rfl),
    View.ld_unit_zero (S := S1x1024x512) (off := ![0, 0, 0]) (by funext d; fin_cases d <;> rfl)]
  rfl

set_option maxHeartbeats 4000000 in
/-- The second output's block: the 8 statistics tiles. -/
theorem out8_eq : out0_A_8 c i arg3 harg3 arg4 harg4 arg5 harg5 arg6 harg6 arg7 harg7 arg8 harg8 arg9 harg9 arg10 harg10 arg11 harg11 arg12 harg12 arg13 harg13 x0 x1 x2 x3 x4 x5 x6
    = View.canon [stPiece i x0 (bufPieces x1 x2 x3) 7 (by decide), stPiece i x0 (bufPieces x1 x2 x3) 6 (by decide),
      stPiece i x0 (bufPieces x1 x2 x3) 5 (by decide), stPiece i x0 (bufPieces x1 x2 x3) 4 (by decide),
      stPiece i x0 (bufPieces x1 x2 x3) 3 (by decide), stPiece i x0 (bufPieces x1 x2 x3) 2 (by decide),
      stPiece i x0 (bufPieces x1 x2 x3) 1 (by decide), stPiece i x0 (bufPieces x1 x2 x3) 0 (by decide)] := by
  unfold out0_A_8
  rw [View.read_writes_eq_canon _ _ _ (cover0_A_8 c i arg3 harg3 arg4 harg4 arg5 harg5 arg6 harg6 arg7 harg7 arg8 harg8 arg9 harg9 arg10 harg10 arg11 harg11 arg12 harg12 arg13 harg13 x0 x1 x2 x3 x4 x5 x6)]
  unfold kernelRun0_A
  dsimp only
  sl_unfold_words
  simp only [View.readCov_eq_canon', View.readAt_eq_ld, harg3.read_unread, harg4.read_unread, harg5.read_unread,
    harg6.read_unread, harg7.read_unread, harg8.read_unread, harg9.read_unread,
    View.ld_unit_zero (S := S1x64x512) (off := ![0, 0, 0]) (by funext d; fin_cases d <;> rfl),
    View.ld_unit_zero (S := S1x1024x512) (off := ![0, 0, 0]) (by funext d; fin_cases d <;> rfl)]
  rfl

end Cert.Attn

end
-- ==== Proof.Attn.Spec.lean ====
module

public import Idealize.ShloMosaic.PureOps.Ideal
public import Idealize.ShloMosaic.Lib.Pointwise

/-!
# Banded attention, as plain mathematics

The functions both programs compute: the score of a query against a key, masked off the band, a row's maximum, its
weights, their sum and the weighted sum of the values. Two facts move a row from all keys to a window of them.
-/

@[expose] public section

noncomputable section

namespace Cert.Attn

open Idealize.ShloMosaic

/-- An array of 16 sequences of 2048 rows, each of 8 heads of 64 lanes. -/
abbrev Arr := (⟨2, ![32768, 512]⟩ : Shape).Idx → EReal

/-- Row `s` of sequence `n`, lane `l`. -/
def ent (x : Arr) (n : Fin 16) (s : Fin 2048) (l : Fin 512) : EReal :=
  x (ix2 ⟨2048 * n.val + s.val, by omega⟩ l)

/-- Lane `e` of head `h`. -/
def lane (h : Fin 8) (e : Fin 64) : Fin 512 := ⟨64 * h.val + e.val, by omega⟩

/-- Head `h`'s slope, `2 ^ -(h + 1)`. -/
def slope (h : Fin 8) : EReal := ((((2 : ℝ) ^ (h.val + 1))⁻¹ : ℝ) : EReal)

/-- The distance of two rows. -/
def gap (s j : ℕ) : ℕ := (s - j) + (j - s)

/-- Query row `s` against key row `j`: the product less the slope times the distance, `⊥` off the band. -/
def logit (q k : Arr) (n : Fin 16) (h : Fin 8) (s j : Fin 2048) : EReal :=
  if gap s j ≤ 64 then
    (∑ e : Fin 64, ent q n s (lane h e) * ent k n j (lane h e)) - slope h * ((gap s j : ℝ) : EReal)
  else ⊥

/-- A row's maximum. -/
def rowTop (q k : Arr) (n : Fin 16) (h : Fin 8) (s : Fin 2048) : EReal := Finset.univ.fold max ⊥ (logit q k n h s)

/-- A key's weight: the exponential of its score less the row's maximum. -/
def weight (q k : Arr) (n : Fin 16) (h : Fin 8) (s j : Fin 2048) : EReal :=
  Ideal.exp (logit q k n h s j - rowTop q k n h s)

/-- The row's sum of the weights. -/
def rowTotal (q k : Arr) (n : Fin 16) (h : Fin 8) (s : Fin 2048) : EReal := ∑ j, weight q k n h s j

/-- The row's weighted sum of the values, at lane `e` of the head. -/
def rowNumer (q k v : Arr) (n : Fin 16) (h : Fin 8) (s : Fin 2048) (e : Fin 64) : EReal :=
  ∑ j, weight q k n h s j * ent v n j (lane h e)

/-- Off the band the score is `⊥`. -/
theorem logit_far (q k : Arr) (n : Fin 16) (h : Fin 8) (s j : Fin 2048) (hf : 64 < gap s j) : logit q k n h s j = ⊥ :=
  if_neg (Nat.not_le.mpr hf)

/-- Off the band the weight is zero. -/
theorem weight_far (q k : Arr) (n : Fin 16) (h : Fin 8) (s j : Fin 2048) (hf : 64 < gap s j) :
    weight q k n h s j = 0 := by
  rw [weight, logit_far q k n h s j hf, EReal.bot_sub, Ideal.exp_bot]

/-- The sum of a row that vanishes outside a window is the window's sum: column `c` of the window is key `B + c - 64`,
    and the columns before the first key or after the last are zero. -/
theorem sum_window (B : ℕ) (f : Fin 256 → EReal) (g : Fin 2048 → EReal)
    (hin : ∀ (c : Fin 256) (j : Fin 2048), j.val + 64 = B + c.val → f c = g j)
    (hout : ∀ c : Fin 256, (B + c.val < 64 ∨ 2112 ≤ B + c.val) → f c = 0)
    (hfar : ∀ j : Fin 2048, (j.val + 64 < B ∨ B + 256 ≤ j.val + 64) → g j = 0) : ∑ c, f c = ∑ j, g j := by
  have key : ∀ c : Fin 256, f c ≠ 0 → 64 ≤ B + c.val ∧ B + c.val < 2112 := fun c hc => by
    by_contra hn
    exact hc (hout c (by omega))
  refine Finset.sum_bij_ne_zero (fun c _ hc => (⟨B + c.val - 64, by have := key c hc; omega⟩ : Fin 2048))
    (fun _ _ _ => Finset.mem_univ _) ?_ ?_ ?_
  · intro c _ hc c' _ hc' e
    have h1 := key c hc
    have h2 := key c' hc'
    have := congrArg Fin.val e
    apply Fin.ext
    simp only at this
    omega
  · intro j _ hj
    have hw : B ≤ j.val + 64 ∧ j.val + 64 < B + 256 := by
      by_contra hn
      exact hj (hfar j (by omega))
    have e := hin ⟨j.val + 64 - B, by omega⟩ j (by simp only; omega)
    refine ⟨⟨j.val + 64 - B, by omega⟩, Finset.mem_univ _, by rw [e]; exact hj, ?_⟩
    apply Fin.ext
    simp only
    omega
  · intro c _ hc
    have := key c hc
    exact hin c _ (by simp only; omega)

/-- The same for a row's maximum, with `⊥` for zero. -/
theorem fold_max_window (B : ℕ) (f : Fin 256 → EReal) (g : Fin 2048 → EReal)
    (hin : ∀ (c : Fin 256) (j : Fin 2048), j.val + 64 = B + c.val → f c = g j)
    (hout : ∀ c : Fin 256, (B + c.val < 64 ∨ 2112 ≤ B + c.val) → f c = ⊥)
    (hfar : ∀ j : Fin 2048, (j.val + 64 < B ∨ B + 256 ≤ j.val + 64) → g j = ⊥) :
    Finset.univ.fold max ⊥ f = Finset.univ.fold max ⊥ g := by
  change Finset.univ.sup f = Finset.univ.sup g
  apply le_antisymm
  · refine Finset.sup_le fun c _ => ?_
    by_cases hc : B + c.val < 64 ∨ 2112 ≤ B + c.val
    · rw [hout c hc]; exact bot_le
    · rw [hin c ⟨B + c.val - 64, by omega⟩ (by simp only; omega)]
      exact Finset.le_sup (f := g) (Finset.mem_univ _)
  · refine Finset.sup_le fun j _ => ?_
    by_cases hj : j.val + 64 < B ∨ B + 256 ≤ j.val + 64
    · rw [hfar j hj]; exact bot_le
    · rw [← hin ⟨j.val + 64 - B, by omega⟩ j (by simp only; omega)]
      exact Finset.le_sup (f := f) (Finset.mem_univ _)

/-- A key outside the window of tile `B` is off the band of each of the tile's rows. -/
theorem gap_far (B r : ℕ) (s j : Fin 2048) (hs : s.val = B + r) (hr : r < 128)
    (hj : j.val + 64 < B ∨ B + 256 ≤ j.val + 64) : 64 < gap s j := by
  unfold gap; omega

/-- A sum over 128 lanes of which only the first 64 are kept. -/
theorem sum_lanes_lo (f : Fin 128 → EReal) (g : Fin 64 → EReal)
    (hlo : ∀ (d : Fin 128) (e : Fin 64), d.val = e.val → f d = g e) (hhi : ∀ d : Fin 128, 64 ≤ d.val → f d = 0) :
    ∑ d, f d = ∑ e, g e := by
  have h1 : ∑ e : Fin 64, f (Fin.castAdd 64 e) = ∑ e, g e := Finset.sum_congr rfl fun e _ => hlo _ e rfl
  have h2 : ∑ e : Fin 64, f (Fin.natAdd 64 e) = 0 := Finset.sum_eq_zero fun e _ => hhi _ (Nat.le_add_right 64 e.val)
  rw [Fin.sum_univ_add (a := 64) (b := 64) f, h1, h2, add_zero]

/-- A sum over 128 lanes of which only the last 64 are kept. -/
theorem sum_lanes_hi (f : Fin 128 → EReal) (g : Fin 64 → EReal)
    (hhi : ∀ (d : Fin 128) (e : Fin 64), d.val = 64 + e.val → f d = g e) (hlo : ∀ d : Fin 128, d.val < 64 → f d = 0) :
    ∑ d, f d = ∑ e, g e := by
  have h1 : ∑ e : Fin 64, f (Fin.castAdd 64 e) = 0 := Finset.sum_eq_zero fun e _ => hlo _ e.isLt
  have h2 : ∑ e : Fin 64, f (Fin.natAdd 64 e) = ∑ e, g e := Finset.sum_congr rfl fun e _ => hhi _ e rfl
  rw [Fin.sum_univ_add (a := 64) (b := 64) f, h1, h2, zero_add]

end Cert.Attn

end
-- ==== Proof.Attn.Words.lean ====
module

public import proofs.«01_k».proof.Proof.Attn.Block
public import proofs.«01_k».proof.Proof.Attn.Spec
public import Idealize.ShloMosaic.Lib.WordCmp
public import Idealize.ShloMosaic.Lib.WordArith
public import Idealize.ShloMosaic.PureOps.Ideal.Laws

/-!
# The words and masks of a tile, entry by entry
-/

@[expose] public section

set_option maxRecDepth 16384

noncomputable section

namespace Cert.Attn

open Idealize.ShloMosaic Idealize.ShloMosaic.TcCoe Idealize.ShloMosaic.Tactic
open Cert.KernelIdeal Cert.KernelIdeal.Gen

/-- The distance word at an entry. -/
theorem adist_apply (r : Fin 128) (c : Fin 256) : adist (ix2 r c) = BitVec.ofNat 32 (gap (r.val + 64) c.val) := by
  have e : adist (ix2 r c) = IntOp.absi (BitVec.ofNat 32 r.val + 64#32 - BitVec.ofNat 32 c.val) := by
    unfold adist; pointwise; rfl
  rw [e]
  have hr := r.isLt
  have hc := c.isLt
  apply BitVec.eq_of_toNat_eq
  unfold IntOp.absi gap
  have hm : (BitVec.ofNat 32 r.val + 64#32 - BitVec.ofNat 32 c.val).msb = decide (r.val + 64 < c.val) := by
    rw [BitVec.msb_eq_decide]
    simp only [BitVec.toNat_sub, BitVec.toNat_add, BitVec.toNat_ofNat]
    congr 1
    apply propext
    omega
  rw [hm]
  by_cases h : r.val + 64 < c.val
  · rw [if_pos (by simpa using h)]
    simp only [BitVec.toNat_neg, BitVec.toNat_sub, BitVec.toNat_add, BitVec.toNat_ofNat]
    omega
  · rw [if_neg (by simpa using h)]
    simp only [BitVec.toNat_sub, BitVec.toNat_add, BitVec.toNat_ofNat]
    omega

/-- The word of a tile's first key row, read signed. -/
theorem tileBase_toInt : ∀ (x : Fin 2) (a : Fin 8),
    (BitVec.ofNat 32 x.val * 1024#32 + tileOff a.val).toInt = 1024 * (x.val : ℤ) + 128 * (a.val : ℤ) - 64 := by
  decide +kernel

/-- The key row word at an entry, read signed. -/
theorem keyRow_toInt (i : grid0.Coords) (a : ℕ) (ha : a < 8) (r : Fin 128) (c : Fin 256) :
    (keyRow i (tileOff a) (ix2 r c)).toInt = 1024 * ((i 1).val : ℤ) + 128 * (a : ℤ) + (c.val : ℤ) - 64 := by
  have e : keyRow i (tileOff a) (ix2 r c)
      = BitVec.ofNat 32 (i 1).val * 1024#32 + tileOff a + BitVec.ofNat 32 c.val := by
    unfold keyRow; pointwise; rfl
  have hc := c.isLt
  have hB := tileBase_toInt ⟨(i 1).val, (i 1).isLt⟩ ⟨a, ha⟩
  have hC := WordArith.toInt_ofNat_small c.val (by omega)
  have hi : (i 1).val < 2 := (i 1).isLt
  simp only at hB
  rw [e, WordArith.toInt_add_of_bounds _ _ (by rw [hB, hC]; omega) (by rw [hB, hC]; omega), hB, hC]
  omega

/-- Which entries are kept: inside the sequence and at distance at most 64. -/
theorem valid_apply (i : grid0.Coords) (a : ℕ) (ha : a < 8) (r : Fin 128) (c : Fin 256) :
    valid i (tileOff a) (ix2 r c) = BitVec.ofBool (decide (gap (r.val + 64) c.val ≤ 64 ∧
      64 ≤ 1024 * (i 1).val + 128 * a + c.val ∧ 1024 * (i 1).val + 128 * a + c.val < 2112)) := by
  have e : valid i (tileOff a) (ix2 r c)
      = IntOp.andi (IntOp.cmpi .sle (adist (ix2 r c)) 64#32)
          (IntOp.andi (IntOp.cmpi .sge (keyRow i (tileOff a) (ix2 r c)) 0#32)
            (IntOp.cmpi .slt (keyRow i (tileOff a) (ix2 r c)) 2048#32)) := rfl
  have hg : gap (r.val + 64) c.val < 1000 := by
    have := r.isLt; have := c.isLt; unfold gap; omega
  rw [e, adist_apply, WordCmp.cmpi_sle_ofNat (by omega) (by omega), WordCmp.cmpi_sge_eq, WordCmp.cmpi_slt_eq, keyRow_toInt i a ha,
    WordCmp.andi_ofBool, WordCmp.andi_ofBool]
  congr 1
  have h0 : (0#32).toInt = 0 := by decide
  have h1 : (2048#32).toInt = 2048 := by decide
  rw [h0, h1]
  simp only [← Bool.decide_and]
  congr 1
  apply propext
  omega

/-- The distance as an extended real. -/
theorem dist_apply (r : Fin 128) (c : Fin 256) :
    (dist : FVec Ideal S128x256 .f32) (ix2 r c) = ((gap (r.val + 64) c.val : ℝ) : EReal) := by
  have e : (dist : FVec Ideal S128x256 .f32) (ix2 r c)
      = (((IntOp.muli (adist (ix2 r c)) 1#32).toInt : ℝ) : EReal) := rfl
  have hg : gap (r.val + 64) c.val < 1000 := by
    have := r.isLt; have := c.isLt; unfold gap; omega
  rw [e, adist_apply]
  have : IntOp.muli (BitVec.ofNat 32 (gap (r.val + 64) c.val)) 1#32 = BitVec.ofNat 32 (gap (r.val + 64) c.val) := by
    unfold IntOp.muli; simp
  rw [this, WordCmp.toInt_ofNat_of_lt (by omega)]
  simp

/-- The bits of a head's slope denote the slope. -/
theorem slopeBits_value (h : Fin 8) : Ideal.ofBits .f32 (slopeBits h.val) = slope h := by
  unfold slopeBits slope
  fin_cases h <;> simp [Ideal.ofBits, Ideal.ieee, -EReal.coe_mul] <;> norm_num

theorem lanesLo_apply (r d : Fin 128) : lanesLo (ix2 r d) = BitVec.ofBool (decide (d.val < 64)) := by
  have e : lanesLo (ix2 r d) = IntOp.cmpi .slt (BitVec.ofNat 32 d.val) 64#32 := by unfold lanesLo; pointwise
  rw [e, WordCmp.cmpi_slt_ofNat (by omega) (by omega)]

theorem lanesHi_apply (r d : Fin 128) : lanesHi (ix2 r d) = BitVec.ofBool (decide (64 ≤ d.val)) := by
  have e : lanesHi (ix2 r d) = IntOp.cmpi .sge (BitVec.ofNat 32 d.val) 64#32 := by unfold lanesHi; pointwise
  rw [e, WordCmp.cmpi_sge_ofNat (by omega) (by omega)]

/-- The product of a masked query row and a key row. -/
theorem dot_apply (q : FVec Ideal S128x128 .bf16) (k : FVec Ideal S256x128 .bf16) (r : Fin 128) (c : Fin 256) :
    matmul dot_S128x128_S256x128_S128x256_1_1_0_0_n_n none q k (constant S128x256 .f32 0x00000000#32) (ix2 r c)
      = ∑ d : Fin 128, q (ix2 r d) * k (ix2 c d) := by
  pointwise

end Cert.Attn

end
-- ==== Proof.Attn.Score.lean ====
module

public import proofs.«01_k».proof.Proof.Attn.Words
public import Idealize.ShloMosaic.Lib.WordCmp
public import Idealize.ShloMosaic.Lib.WordArith
public import Idealize.ShloMosaic.PureOps.Ideal.Laws

/-!
# A score tile, entry by entry

At the ideal values the entry of a score tile at query row `r` and window column `c` is the score of the query against
the key under that column when the column is inside the sequence, and `⊥` when it is not.
-/

@[expose] public section

set_option maxRecDepth 16384

noncomputable section

namespace Cert.Attn

open Idealize.ShloMosaic Idealize.ShloMosaic.TcCoe Idealize.ShloMosaic.Tactic
open Cert.KernelIdeal Cert.KernelIdeal.Gen

/-- The masked score is `⊥`. -/
theorem masked_value : (Named.named κ "masked" 0xF149F2CA#32 : Ideal .f32) = ⊥ :=
  IdealRules.named_const.ideal_named_scalar _ _ _ _ rfl

/-- The shape of a score at an entry. -/
theorem masked_apply (v : IVec S128x256 1) (x y : FVec Ideal S128x256 .f32) (b z : Ideal .f32) (j : S128x256.Idx) :
    select v (subf x (mulf (broadcast S128x256 b) y)) (broadcast S128x256 z) j
      = if v j = 1 then (x j : EReal) - b * y j else z := rfl

/-- A score tile's entry: the masked product less the slope times the distance where it is kept, `⊥` elsewhere. -/
theorem score_apply (mine : IVec S128x128 1) (h : Fin 8) (i : grid0.Coords) (a : ℕ) (ha : a < 8)
    (q : FVec Ideal S128x128 .bf16) (k : FVec Ideal S256x128 .bf16) (r : Fin 128) (c : Fin 256) :
    score mine (slopeBits h.val) i (tileOff a) q k (ix2 r c)
      = if gap (r.val + 64) c.val ≤ 64 ∧ 64 ≤ 1024 * (i 1).val + 128 * a + c.val ∧
          1024 * (i 1).val + 128 * a + c.val < 2112 then
          (∑ d : Fin 128, (if mine (ix2 r d) = 1 then q (ix2 r d) else 0) * k (ix2 c d))
            - slope h * ((gap (r.val + 64) c.val : ℝ) : EReal)
        else ⊥ := by
  have hz : ∀ d : Fin 128, select mine q (broadcast S128x128 (Scalar.ofBits .bf16 0x0000#16 : Ideal .bf16)) (ix2 r d)
      = if mine (ix2 r d) = 1 then q (ix2 r d) else 0 := fun d => by
    show (if mine (ix2 r d) = 1 then q (ix2 r d) else Ideal.ofBits .bf16 0x0000#16) = _
    have : Ideal.ofBits .bf16 0x0000#16 = 0 := by simp [Ideal.ofBits, Ideal.ieee]
    rw [this]
  rw [score, masked_apply, valid_apply i a ha, masked_value, dot_apply, dist_apply]
  simp only [hz]
  rw [show (Scalar.ofBits .f32 (slopeBits h.val) : Ideal .f32) = slope h from slopeBits_value h]
  exact if_congr (by rw [WordCmp.ofBool_eq_one_iff', decide_eq_true_eq]) rfl rfl

section Entry
variable (Q K : Arr) (n : Fin 16) (h : Fin 8) (s : Fin 2048) (i : grid0.Coords) (a : ℕ) (ha : a < 8)
  (q : FVec Ideal S128x128 .bf16) (k : FVec Ideal S256x128 .bf16) (r : Fin 128)

include ha in
/-- A column outside the sequence holds `⊥`. -/
theorem score_out (mine : IVec S128x128 1) (c : Fin 256)
    (hc : 1024 * (i 1).val + 128 * a + c.val < 64 ∨ 2112 ≤ 1024 * (i 1).val + 128 * a + c.val) :
    score mine (slopeBits h.val) i (tileOff a) q k (ix2 r c) = ⊥ := by
  rw [score_apply mine h i a ha q k r c, if_neg (by omega)]

include ha in
/-- A column over key `j` holds the query's score against that key, once the masked product is the head's. -/
theorem score_in (mine : IVec S128x128 1) (hs : s.val = 1024 * (i 1).val + 128 * a + r.val) (c : Fin 256)
    (j : Fin 2048) (hj : j.val + 64 = 1024 * (i 1).val + 128 * a + c.val)
    (hdot : (∑ d : Fin 128, (if mine (ix2 r d) = 1 then q (ix2 r d) else 0) * k (ix2 c d))
      = ∑ e : Fin 64, ent Q n s (lane h e) * ent K n j (lane h e)) :
    score mine (slopeBits h.val) i (tileOff a) q k (ix2 r c) = logit Q K n h s j := by
  have hg : gap (r.val + 64) c.val = gap s.val j.val := by unfold gap; omega
  rw [score_apply mine h i a ha q k r c, hdot, hg, logit]
  have : j.val < 2048 := j.isLt
  by_cases hb : gap s.val j.val ≤ 64
  · rw [if_pos hb, if_pos ⟨hb, by omega, by omega⟩]
  · rw [if_neg hb, if_neg (fun hh => hb hh.1)]

/-- The masked product of a pair's first head. -/
theorem dot_lo (c : Fin 256) (j : Fin 2048)
    (hq : ∀ (d : Fin 128) (e : Fin 64), d.val = e.val → q (ix2 r d) = ent Q n s (lane h e))
    (hk : ∀ (d : Fin 128) (e : Fin 64), d.val = e.val → k (ix2 c d) = ent K n j (lane h e)) :
    (∑ d : Fin 128, (if lanesLo (ix2 r d) = 1 then q (ix2 r d) else 0) * k (ix2 c d))
      = ∑ e : Fin 64, ent Q n s (lane h e) * ent K n j (lane h e) := by
  refine sum_lanes_lo _ _ (fun d e hd => ?_) fun d hd => ?_
  · rw [lanesLo_apply, decide_eq_true (by omega : d.val < 64), if_pos (by decide), hq d e hd, hk d e hd]
  · rw [lanesLo_apply, decide_eq_false (by omega : ¬ d.val < 64), if_neg (by decide), zero_mul]

/-- The masked product of its second head. -/
theorem dot_hi (c : Fin 256) (j : Fin 2048)
    (hq : ∀ (d : Fin 128) (e : Fin 64), d.val = 64 + e.val → q (ix2 r d) = ent Q n s (lane h e))
    (hk : ∀ (d : Fin 128) (e : Fin 64), d.val = 64 + e.val → k (ix2 c d) = ent K n j (lane h e)) :
    (∑ d : Fin 128, (if lanesHi (ix2 r d) = 1 then q (ix2 r d) else 0) * k (ix2 c d))
      = ∑ e : Fin 64, ent Q n s (lane h e) * ent K n j (lane h e) := by
  refine sum_lanes_hi _ _ (fun d e hd => ?_) fun d hd => ?_
  · rw [lanesHi_apply, decide_eq_true (by omega : 64 ≤ d.val), if_pos (by decide), hq d e hd, hk d e hd]
  · rw [lanesHi_apply, decide_eq_false (by omega : ¬ 64 ≤ d.val), if_neg (by decide), zero_mul]

end Entry

/-! ## A row of a tile that holds the scores of a window -/

/-- Row `r` of the tile holds the scores of query `s` over the window that begins at key `B - 64`. -/
structure IsRow (Q K : Arr) (n : Fin 16) (h : Fin 8) (s : Fin 2048) (B : ℕ) (t : FVec Ideal S128x256 .f32)
    (r : Fin 128) : Prop where
  at_row : s.val = B + r.val
  at_key : ∀ (c : Fin 256) (j : Fin 2048), j.val + 64 = B + c.val → t (ix2 r c) = logit Q K n h s j
  at_out : ∀ c : Fin 256, (B + c.val < 64 ∨ 2112 ≤ B + c.val) → t (ix2 r c) = ⊥

section Row
variable {Q K : Arr} {n : Fin 16} {h : Fin 8} {s : Fin 2048} {B : ℕ} {t : FVec Ideal S128x256 .f32} {r : Fin 128}

theorem rowMax_eq (t : FVec Ideal S128x256 .f32) (r : Fin 128) (d : Fin 1) :
    rowMax t (ix2 r d) = Finset.univ.fold max ⊥ fun c : Fin 256 => t (ix2 r c) := by
  unfold rowMax
  pointwise
  have : Ideal.ofBits .f32 0xFF800000#32 = ⊥ := by simp [Ideal.ofBits, Ideal.ieee]
  rw [this]

/-- Its maximum is the row's. -/
theorem IsRow.max (H : IsRow Q K n h s B t r) (d : Fin 1) : rowMax t (ix2 r d) = rowTop Q K n h s := by
  rw [rowMax_eq, rowTop]
  exact fold_max_window B _ _ H.at_key H.at_out fun j hj =>
    logit_far Q K n h s j (gap_far B r s j H.at_row r.isLt hj)

theorem weights_eq (t : FVec Ideal S128x256 .f32) (r : Fin 128) (c : Fin 256) :
    weights t (ix2 r c) = Ideal.exp (t (ix2 r c) - rowMax t (ix2 r 0)) := by
  unfold weights
  pointwise

/-- Its weights are the keys'. -/
theorem IsRow.weight (H : IsRow Q K n h s B t r) (c : Fin 256) (j : Fin 2048) (hj : j.val + 64 = B + c.val) :
    weights t (ix2 r c) = weight Q K n h s j := by
  rw [weights_eq, H.max, H.at_key c j hj, Cert.Attn.weight]

theorem IsRow.weight_out (H : IsRow Q K n h s B t r) (c : Fin 256) (hc : B + c.val < 64 ∨ 2112 ≤ B + c.val) :
    weights t (ix2 r c) = 0 := by
  rw [weights_eq, H.at_out c hc, EReal.bot_sub, Ideal.exp_bot]

/-- Its sum is the row's. -/
theorem IsRow.sum (H : IsRow Q K n h s B t r) (d : Fin 1) : rowSum t (ix2 r d) = rowTotal Q K n h s := by
  have e : rowSum t (ix2 r d) = ∑ c : Fin 256, weights t (ix2 r c) := by
    unfold rowSum
    pointwise
  rw [e, rowTotal]
  exact sum_window B _ _ H.weight H.weight_out fun j hj =>
    weight_far Q K n h s j (gap_far B r s j H.at_row r.isLt hj)

/-- Its numerator at lane `d` is the row's at lane `e`, the window's values being the head's there. -/
theorem IsRow.numer (H : IsRow Q K n h s B t r) (V : Arr) (v : FVec Ideal S256x128 .bf16) (d : Fin 128) (e : Fin 64)
    (hv : ∀ (c : Fin 256) (j : Fin 2048), j.val + 64 = B + c.val → v (ix2 c d) = ent V n j (lane h e)) :
    numer t v (ix2 r d) = rowNumer Q K V n h s e := by
  have e' : Cert.Attn.numer t v (ix2 r d) = ∑ c : Fin 256, weights t (ix2 r c) * v (ix2 c d) := by
    unfold Cert.Attn.numer
    pointwise
  rw [e', rowNumer]
  refine sum_window B _ _ (fun c j hj => ?_) (fun c hc => ?_) fun j hj => ?_
  · rw [H.weight c j hj, hv c j hj]
  · rw [H.weight_out c hc, zero_mul]
  · rw [weight_far Q K n h s j (gap_far B r s j H.at_row r.isLt hj), zero_mul]

end Row

end Cert.Attn

end
-- ==== Proof.Attn.Rows.lean ====
module

public import proofs.«01_k».proof.Proof.Attn.Score
public import Idealize.ShloMosaic.Lib.Pipeline.ValueKit.Tiles

/-!
# A block of the outputs, entry by entry

Given what a grid point's input blocks hold (rows of the queries, of the keys and of the values), every entry of the
two output blocks is the row's weighted sum of the values, its maximum or its sum.
-/

@[expose] public section

set_option maxRecDepth 16384

noncomputable section

namespace Cert.Attn

open Idealize.ShloMosaic Idealize.ShloMosaic.TcCoe Idealize.ShloMosaic.Tactic
open Cert.KernelIdeal Cert.KernelIdeal.Gen

/-- The query block holds rows `1024 b …` of sequence `n`. -/
def HoldsQ (Q : Arr) (n : Fin 16) (b : ℕ) (x : Vec Ideal S1x1024x512 .bf16) : Prop :=
  ∀ (ρ : Fin 1024) (l : Fin 512) (s : Fin 2048), s.val = 1024 * b + ρ.val → x (ix3 0 ρ l) = ent Q n s l

/-- The window buffer holds rows `1024 b - 64 …` of sequence `n`, where they are rows of it. -/
def HoldsK (K : Arr) (n : Fin 16) (b : ℕ) (L : List (View.Piece (Elt Ideal) S1152x512 .bf16)) : Prop :=
  ∀ (ρ : Fin 1152) (l : Fin 512) (j : Fin 2048), j.val + 64 = 1024 * b + ρ.val → View.canon L (ix2 ρ l) = ent K n j l

/-- A tile's queries at an entry. -/
theorem qTile_apply (x : Vec Ideal S1x1024x512 .bf16) (a hp : ℕ) (ha : a < 8) (hh : hp < 4) (r d : Fin 128) :
    qTile x a hp ha hh (ix2 r d)
      = x (ix3 0 ⟨128 * a + r.val, by omega⟩ ⟨128 * hp + d.val, by omega⟩) := by
  unfold qTile
  refine (shapeCast_dropUnit_apply ![128, 128] _ _ (ix2 r d)).trans ?_
  refine View.ld_unit_apply_of x _ _ _ _ _ fun e => ?_
  fin_cases e <;> rfl

/-- A window at an entry. -/
theorem win_apply (L : List (View.Piece (Elt Ideal) S1152x512 .bf16)) (a hp : ℕ) (ha : a < 8) (hh : hp < 4)
    (c : Fin 256) (d : Fin 128) :
    win L a hp ha hh (ix2 c d)
      = View.canon L (ix2 ⟨128 * a + c.val, by omega⟩ ⟨128 * hp + d.val, by omega⟩) := by
  unfold win
  refine congrArg _ (funext fun e => Fin.ext ((Rect.idx_unit_val _ _ _ _ _).trans ?_))
  fin_cases e <;> simp

section Block
variable {Q K V : Arr} {n : Fin 16} {i : grid0.Coords} {xq : Vec Ideal S1x1024x512 .bf16}
  {LK LV : List (View.Piece (Elt Ideal) S1152x512 .bf16)}
  (hQ : HoldsQ Q n (i 1).val xq) (hK : HoldsK K n (i 1).val LK) (hV : HoldsK V n (i 1).val LV)
  (a hp : ℕ) (ha : a < 8) (hh : hp < 4) (r : Fin 128) (s : Fin 2048) (hs : s.val = 1024 * (i 1).val + 128 * a + r.val)

include hQ hs in
theorem q_entry (d : Fin 128) (l : Fin 512) (hl : l.val = 128 * hp + d.val) :
    qTile xq a hp ha hh (ix2 r d) = ent Q n s l := by
  rw [qTile_apply]
  refine (hQ _ _ s (by simp only; omega)).trans ?_
  exact congrArg _ (Fin.ext hl.symm)

omit hQ hs hV in
include hK in
theorem k_entry (c : Fin 256) (j : Fin 2048) (hj : j.val + 64 = 1024 * (i 1).val + 128 * a + c.val) (d : Fin 128)
    (l : Fin 512) (hl : l.val = 128 * hp + d.val) : win LK a hp ha hh (ix2 c d) = ent K n j l := by
  rw [win_apply]
  refine (hK _ _ j (by simp only; omega)).trans ?_
  exact congrArg _ (Fin.ext hl.symm)

include hQ hK hs in
/-- A row of a pair's first score tile. -/
theorem isRow_lo : IsRow Q K n ⟨2 * hp, by omega⟩ s (1024 * (i 1).val + 128 * a) (scoreLo i xq LK a hp ha hh) r where
  at_row := hs
  at_out c hc := score_out ⟨2 * hp, by omega⟩ i a ha _ _ r lanesLo c hc
  at_key c j hj := score_in Q K n ⟨2 * hp, by omega⟩ s i a ha _ _ r lanesLo hs c j hj
    (dot_lo Q K n ⟨2 * hp, by omega⟩ s _ _ r c j
      (fun d e hd => q_entry hQ a hp ha hh r s hs d _ (by simp only [lane]; omega))
      fun d e hd => k_entry hK a hp ha hh c j hj d _ (by simp only [lane]; omega))

include hQ hK hs in
/-- A row of a pair's second score tile. -/
theorem isRow_hi :
    IsRow Q K n ⟨2 * hp + 1, by omega⟩ s (1024 * (i 1).val + 128 * a) (scoreHi i xq LK a hp ha hh) r where
  at_row := hs
  at_out c hc := score_out ⟨2 * hp + 1, by omega⟩ i a ha _ _ r lanesHi c hc
  at_key c j hj := score_in Q K n ⟨2 * hp + 1, by omega⟩ s i a ha _ _ r lanesHi hs c j hj
    (dot_hi Q K n ⟨2 * hp + 1, by omega⟩ s _ _ r c j
      (fun d e hd => q_entry hQ a hp ha hh r s hs d _ (by simp only [lane]; omega))
      fun d e hd => k_entry hK a hp ha hh c j hj d _ (by simp only [lane]; omega))

end Block

/-- The head a lane `d` of head pair `p` belongs to. -/
def headOf (p : Fin 4) (d : Fin 128) : Fin 8 := ⟨2 * p.val + d.val / 64, by omega⟩

/-- Its lane within the head. -/
def laneOf (d : Fin 128) : Fin 64 := ⟨d.val % 64, by omega⟩

/-- The statistics' lane `l`: maxima in lanes 0 to 7, sums in lanes 8 to 15, zeros in the rest. -/
def statOf (Q K : Arr) (n : Fin 16) (s : Fin 2048) (l : Fin 128) : EReal :=
  if h : l.val < 8 then rowTop Q K n ⟨l.val, h⟩ s
  else if h : l.val < 16 then rowTotal Q K n ⟨l.val - 8, by omega⟩ s
  else 0

/-- An entry of a stored accumulator tile. -/
theorem accTile_apply (s0 s1 : FVec Ideal S128x256 .f32) (v : FVec Ideal S256x128 .bf16) (r d : Fin 128) :
    accTile s0 s1 v (ix4 0 0 r d) = if 64 ≤ d.val then numer s1 v (ix2 r d) else numer s0 v (ix2 r d) := by
  have e : accTile s0 s1 v (ix4 0 0 r d)
      = if lanesHi (ix2 r d) = 1 then numer s1 v (ix2 r d) else numer s0 v (ix2 r d) := by
    unfold accTile; pointwise; rfl
  rw [e, lanesHi_apply]
  exact if_congr (by rw [WordCmp.ofBool_eq_one_iff', decide_eq_true_eq]) rfl rfl

/-- Putting a column into lane `m`. -/
theorem putLane_apply (m : ℕ) (hm : m < 128) (x : FVec Ideal S128x1 .f32) (old : FVec Ideal S128x128 .f32) (r d : Fin 128) :
    putLane (BitVec.ofNat 32 m) x old (ix2 r d) = if d.val = m then x (ix2 r 0) else old (ix2 r d) := by
  have e : putLane (BitVec.ofNat 32 m) x old (ix2 r d)
      = if IntOp.cmpi .eq (BitVec.ofNat 32 d.val) (BitVec.ofNat 32 m) = 1 then x (ix2 r 0) else old (ix2 r d) := by
    unfold putLane; pointwise; rfl
  rw [e, WordCmp.cmpi_eq_eq]
  refine if_congr ?_ rfl rfl
  rw [WordCmp.ofBool_eq_one_iff', decide_eq_true_eq, WordCmp.ofNat_eq_ofNat_iff (by omega) (by omega)]

section Stats
variable {Q K : Arr} {n : Fin 16} {s : Fin 2048} {B : ℕ} {t : FVec Ideal S128x256 .f32} {r : Fin 128}

/-- Putting head `m`'s statistics into lanes `m` and `8 + m`: if the lanes below `m` and those from 8 up to `8 + m`
    held the statistics and the rest zero, the same holds one head further. -/
theorem putHead_step (m : ℕ) (hm : m < 8) (H : IsRow Q K n ⟨m, hm⟩ s B t r) (old : FVec Ideal S128x128 .f32)
    (hold : ∀ d : Fin 128, old (ix2 r d) = if d.val % 8 < m then statOf Q K n s d else 0) (d : Fin 128) :
    putHead (BitVec.ofNat 32 m) (BitVec.ofNat 32 (m + 8)) t old (ix2 r d)
      = if d.val % 8 < m + 1 then statOf Q K n s d else 0 := by
  unfold putHead
  rw [putLane_apply (m + 8) (by omega), putLane_apply m (by omega), H.max, H.sum, hold]
  by_cases h1 : d.val = m + 8
  · rw [if_pos h1, if_pos (by omega), statOf, dif_neg (by omega), dif_pos (by omega)]
    congr 1
    apply Fin.ext
    simp only
    omega
  · rw [if_neg h1]
    by_cases h2 : d.val = m
    · rw [if_pos h2, if_pos (by omega), statOf, dif_pos (by omega)]
      congr 1
      exact Fin.ext h2.symm
    · rw [if_neg h2]
      by_cases h3 : d.val % 8 < m
      · rw [if_pos h3, if_pos (by omega)]
      · rw [if_neg h3]
        by_cases h4 : d.val % 8 < m + 1
        · rw [if_pos h4, statOf, dif_neg (by omega), dif_neg (by omega)]
        · rw [if_neg h4]

end Stats

/-- An entry of a stored statistics tile. -/
theorem stTile_apply (s0 s1 s2 s3 s4 s5 s6 s7 : FVec Ideal S128x256 .f32) (r d : Fin 128) :
    stTile s0 s1 s2 s3 s4 s5 s6 s7 (ix3 0 r d)
      = putHead 7#32 15#32 s7 (putHead 6#32 14#32 s6 (putHead 5#32 13#32 s5 (putHead 4#32 12#32 s4
          (putHead 3#32 11#32 s3 (putHead 2#32 10#32 s2 (putHead 1#32 9#32 s1 (putHead 0#32 8#32 s0
            (broadcast S128x128 (Scalar.ofBits .f32 0x00000000#32)))))))) ) (ix2 r d) := by
  unfold stTile
  refine (shapeCast_addUnit_apply ![128, 128] _ _ (ix3 0 r d)).trans ?_
  exact congrArg _ (funext fun e => by fin_cases e <;> rfl)

section Out
variable {Q K V : Arr} {n : Fin 16} {i : grid0.Coords} {xq : Vec Ideal S1x1024x512 .bf16}
  {LK LV : List (View.Piece (Elt Ideal) S1152x512 .bf16)}

/-- A tile's statistics at an entry. -/
theorem stPiece_apply (hQ : HoldsQ Q n (i 1).val xq) (hK : HoldsK K n (i 1).val LK) (a : ℕ) (ha : a < 8) (r d : Fin 128)
    (s : Fin 2048) (hs : s.val = 1024 * (i 1).val + 128 * a + r.val) :
    (stPiece i xq LK a ha).2 (ix3 0 r d) = statOf Q K n s d := by
  have h0 : ∀ d : Fin 128, (broadcast S128x128 (Scalar.ofBits .f32 0x00000000#32 : Ideal .f32)) (ix2 r d)
      = if d.val % 8 < 0 then statOf Q K n s d else 0 := fun d => by
    rw [if_neg (by omega)]
    show Ideal.ofBits .f32 0x00000000#32 = 0
    simp
  refine (stTile_apply _ _ _ _ _ _ _ _ r d).trans ?_
  refine Eq.trans (b := if d.val % 8 < 7 + 1 then statOf Q K n s d else 0) ?_ (if_pos (by omega))
  exact putHead_step 7 (by decide) (isRow_hi hQ hK a 3 ha (by decide) r s hs) _
    (putHead_step 6 (by decide) (isRow_lo hQ hK a 3 ha (by decide) r s hs) _
    (putHead_step 5 (by decide) (isRow_hi hQ hK a 2 ha (by decide) r s hs) _
    (putHead_step 4 (by decide) (isRow_lo hQ hK a 2 ha (by decide) r s hs) _
    (putHead_step 3 (by decide) (isRow_hi hQ hK a 1 ha (by decide) r s hs) _
    (putHead_step 2 (by decide) (isRow_lo hQ hK a 1 ha (by decide) r s hs) _
    (putHead_step 1 (by decide) (isRow_hi hQ hK a 0 ha (by decide) r s hs) _
    (putHead_step 0 (by decide) (isRow_lo hQ hK a 0 ha (by decide) r s hs) _ h0))))))) d

/-- A head pair's stored tile at an entry. -/
theorem accPiece_apply (hQ : HoldsQ Q n (i 1).val xq) (hK : HoldsK K n (i 1).val LK) (hV : HoldsK V n (i 1).val LV)
    (a hp : ℕ) (ha : a < 8) (hh : hp < 4) (r d : Fin 128) (s : Fin 2048)
    (hs : s.val = 1024 * (i 1).val + 128 * a + r.val) :
    (accPiece i xq LK LV a hp ha hh).2 (ix4 0 0 r d)
      = rowNumer Q K V n (headOf ⟨hp, hh⟩ d) s (laneOf d) := by
  refine (accTile_apply _ _ _ r d).trans ?_
  by_cases h : 64 ≤ d.val
  · rw [if_pos h]
    have hd : headOf ⟨hp, hh⟩ d = ⟨2 * hp + 1, by omega⟩ := Fin.ext (by simp only [headOf]; omega)
    rw [hd]
    exact (isRow_hi hQ hK a hp ha hh r s hs).numer V _ d _ fun c j hj =>
      k_entry hV a hp ha hh c j hj d _ (by simp only [lane, laneOf]; omega)
  · rw [if_neg h]
    have hd : headOf ⟨hp, hh⟩ d = ⟨2 * hp, by omega⟩ := Fin.ext (by simp only [headOf]; omega)
    rw [hd]
    exact (isRow_lo hQ hK a hp ha hh r s hs).numer V _ d _ fun c j hj =>
      k_entry hV a hp ha hh c j hj d _ (by simp only [lane, laneOf]; omega)

/-- The first output's block at an entry: the row's weighted sum of the values. -/
theorem acc_apply (hQ : HoldsQ Q n (i 1).val xq) (hK : HoldsK K n (i 1).val LK) (hV : HoldsK V n (i 1).val LV)
    (hp : Fin 4) (ρ : Fin 1024) (d : Fin 128) (s : Fin 2048) (hs : s.val = 1024 * (i 1).val + ρ.val) :
    View.canon (accRow i xq LK LV 7 (by decide) ++ accRow i xq LK LV 6 (by decide) ++ accRow i xq LK LV 5 (by decide)
      ++ accRow i xq LK LV 4 (by decide) ++ accRow i xq LK LV 3 (by decide) ++ accRow i xq LK LV 2 (by decide)
      ++ accRow i xq LK LV 1 (by decide) ++ accRow i xq LK LV 0 (by decide)) (ix4 0 hp ρ d)
      = rowNumer Q K V n (headOf hp d) s (laneOf d) := by
  have hi : (i 1).val < 2 := (i 1).isLt
  let G : S1x4x1024x128.Idx → EReal := fun y =>
    rowNumer Q K V n (headOf (y 1) (y 3)) ⟨1024 * (i 1).val + (y 2).val, by have : (y 2).val < 1024 := (y 2).isLt; omega⟩
      (laneOf (y 3))
  have hpiece : ∀ (a hp : ℕ) (ha : a < 8) (hh : hp < 4), ∀ x, (accPiece i xq LK LV a hp ha hh).2 x
      = G ((accPiece i xq LK LV a hp ha hh).1.emb x) := by
    intro a hp ha hh x
    obtain ⟨x0, x1, r, d, rfl⟩ : ∃ (x0 x1 : Fin 1) (r d : Fin 128), x = ix4 x0 x1 r d := ⟨x 0, x 1, x 2, x 3, (ix4_eta x).symm⟩
    obtain rfl : x0 = 0 := Subsingleton.elim _ _
    obtain rfl : x1 = 0 := Subsingleton.elim _ _
    refine (accPiece_apply hQ hK hV a hp ha hh r d ⟨1024 * (i 1).val + 128 * a + r.val, by omega⟩ rfl).trans ?_
    have e1 : ((accPiece i xq LK LV a hp ha hh).1.emb (ix4 0 0 r d) 1 : Fin 4) = ⟨hp, hh⟩ := Fin.ext rfl
    have e2 : ((accPiece i xq LK LV a hp ha hh).1.emb (ix4 0 0 r d) 2).val = 128 * a + r.val :=
      congrArg (128 * a + ·) (Nat.one_mul r.val)
    have e3 : ((accPiece i xq LK LV a hp ha hh).1.emb (ix4 0 0 r d) 3 : Fin 128) = d :=
      Fin.ext ((congrArg (0 + ·) (Nat.one_mul d.val)).trans (Nat.zero_add d.val))
    show _ = rowNumer Q K V n _ _ _
    rw [e1, e3]
    exact congrArg (fun s => rowNumer Q K V n _ s _) (Fin.ext (by simp only; rw [e2]; omega))
  have hrow : ∀ (a : ℕ) (ha : a < 8), ∀ p ∈ accRow i xq LK LV a ha, ∀ x, p.2 x = G (p.1.emb x) := by
    intro a ha p hp
    simp only [accRow, List.mem_cons, List.not_mem_nil, or_false] at hp
    rcases hp with rfl | rfl | rfl | rfl <;> exact hpiece a _ ha _
  have hs' : G (ix4 0 hp ρ d) = rowNumer Q K V n (headOf hp d) s (laneOf d) := by
    show rowNumer Q K V n _ _ _ = _
    congr 1
    exact Fin.ext hs.symm
  refine (View.canon_apply_of_pieces G _ ?_ _ ?_).trans hs'
  · intro p hp
    simp only [List.mem_append] at hp
    rcases hp with ((((((hp | hp) | hp) | hp) | hp) | hp) | hp) | hp <;> exact hrow _ _ p hp
  · have hm : ∀ (a hp' : ℕ) (ha : a < 8) (hh : hp' < 4), ρ.val / 128 = a → hp.val = hp' →
        ix4 0 hp ρ d ∈ (accPiece i xq LK LV a hp' ha hh).1.set := by
      intro a hp' ha hh h1 h2
      refine (Rect.mem_set_unit (inb := inb_acc a hp' ha hh)).mpr fun e => ?_
      fin_cases e
      · exact ⟨Nat.le_refl 0, Nat.one_pos⟩
      · show hp' ≤ hp.val ∧ hp.val < hp' + 1
        omega
      · show 128 * a ≤ ρ.val ∧ ρ.val < 128 * a + 128
        omega
      · show 0 ≤ d.val ∧ d.val < 0 + 128
        omega
    have hrowm : ∀ (a : ℕ) (ha : a < 8), ρ.val / 128 = a →
        ∃ p ∈ accRow i xq LK LV a ha, ix4 0 hp ρ d ∈ p.1.set := by
      intro a ha h1
      have h4 : hp.val = 0 ∨ hp.val = 1 ∨ hp.val = 2 ∨ hp.val = 3 := by omega
      rcases h4 with h | h | h | h
      · exact ⟨_, by simp [accRow], hm a 0 ha (by decide) h1 h⟩
      · exact ⟨accPiece i xq LK LV a 1 ha (by decide), by simp [accRow], hm a 1 ha (by decide) h1 h⟩
      · exact ⟨accPiece i xq LK LV a 2 ha (by decide), by simp [accRow], hm a 2 ha (by decide) h1 h⟩
      · exact ⟨accPiece i xq LK LV a 3 ha (by decide), by simp [accRow], hm a 3 ha (by decide) h1 h⟩
    obtain ⟨p, hp1, hp2⟩ := hrowm (ρ.val / 128) (by omega) rfl
    refine ⟨p, ?_, hp2⟩
    have h8 : ρ.val / 128 = 0 ∨ ρ.val / 128 = 1 ∨ ρ.val / 128 = 2 ∨ ρ.val / 128 = 3 ∨ ρ.val / 128 = 4 ∨
      ρ.val / 128 = 5 ∨ ρ.val / 128 = 6 ∨ ρ.val / 128 = 7 := by omega
    have hin : ∀ (a : ℕ) (ha : a < 8), ρ.val / 128 = a → p ∈ accRow i xq LK LV a ha := by
      rintro a ha rfl; exact hp1
    simp only [List.mem_append]
    rcases h8 with h | h | h | h | h | h | h | h <;> have hi' := hin _ (by omega) h <;> simp only [hi', true_or, or_true]

/-- The second output's block at an entry: the row's statistics. -/
theorem st_apply (hQ : HoldsQ Q n (i 1).val xq) (hK : HoldsK K n (i 1).val LK)
    (ρ : Fin 1024) (d : Fin 128) (s : Fin 2048) (hs : s.val = 1024 * (i 1).val + ρ.val) :
    View.canon [stPiece i xq LK 7 (by decide), stPiece i xq LK 6 (by decide), stPiece i xq LK 5 (by decide),
      stPiece i xq LK 4 (by decide), stPiece i xq LK 3 (by decide), stPiece i xq LK 2 (by decide),
      stPiece i xq LK 1 (by decide), stPiece i xq LK 0 (by decide)] (ix3 0 ρ d) = statOf Q K n s d := by
  have hi : (i 1).val < 2 := (i 1).isLt
  let G : S1x1024x128.Idx → EReal := fun y =>
    statOf Q K n ⟨1024 * (i 1).val + (y 1).val, by have : (y 1).val < 1024 := (y 1).isLt; omega⟩ (y 2)
  have hpiece : ∀ (a : ℕ) (ha : a < 8), ∀ x, (stPiece i xq LK a ha).2 x = G ((stPiece i xq LK a ha).1.emb x) := by
    intro a ha x
    obtain ⟨x0, r, d, rfl⟩ : ∃ (x0 : Fin 1) (r d : Fin 128), x = ix3 x0 r d := ⟨x 0, x 1, x 2, (ix3_eta x).symm⟩
    obtain rfl : x0 = 0 := Subsingleton.elim _ _
    refine (stPiece_apply hQ hK a ha r d ⟨1024 * (i 1).val + 128 * a + r.val, by omega⟩ rfl).trans ?_
    have e1 : ((stPiece i xq LK a ha).1.emb (ix3 0 r d) 1).val = 128 * a + r.val :=
      congrArg (128 * a + ·) (Nat.one_mul r.val)
    have e2 : ((stPiece i xq LK a ha).1.emb (ix3 0 r d) 2 : Fin 128) = d :=
      Fin.ext ((congrArg (0 + ·) (Nat.one_mul d.val)).trans (Nat.zero_add d.val))
    show _ = statOf Q K n _ _
    rw [e2]
    exact congrArg (fun s => statOf Q K n s _) (Fin.ext (by simp only; rw [e1]; omega))
  have hs' : G (ix3 0 ρ d) = statOf Q K n s d := congrArg (fun s => statOf Q K n s d) (Fin.ext hs.symm)
  refine (View.canon_apply_of_pieces G _ ?_ _ ?_).trans hs'
  · intro p hp
    simp only [List.mem_cons, List.not_mem_nil, or_false] at hp
    rcases hp with rfl | rfl | rfl | rfl | rfl | rfl | rfl | rfl <;> exact hpiece _ _
  · have hm : ∀ (a : ℕ) (ha : a < 8), ρ.val / 128 = a → ix3 0 ρ d ∈ (stPiece i xq LK a ha).1.set := by
      intro a ha h1
      refine (Rect.mem_set_unit (inb := inb_st a ha)).mpr fun e => ?_
      fin_cases e
      · exact ⟨Nat.le_refl 0, Nat.one_pos⟩
      · show 128 * a ≤ ρ.val ∧ ρ.val < 128 * a + 128
        omega
      · show 0 ≤ d.val ∧ d.val < 0 + 128
        omega
    refine ⟨stPiece i xq LK (ρ.val / 128) (by omega), ?_, hm _ _ rfl⟩
    have h8 : ρ.val / 128 = 0 ∨ ρ.val / 128 = 1 ∨ ρ.val / 128 = 2 ∨ ρ.val / 128 = 3 ∨ ρ.val / 128 = 4 ∨
      ρ.val / 128 = 5 ∨ ρ.val / 128 = 6 ∨ ρ.val / 128 = 7 := by omega
    rcases h8 with h | h | h | h | h | h | h | h <;> simp only [h, List.mem_cons, true_or, or_true]

end Out

end Cert.Attn

end
-- ==== Proof.Attn.Buffer.lean ====
module

public import proofs.«01_k».proof.Proof.Attn.Rows

/-!
# What a window buffer holds

A buffer of 1152 rows is the 64 rows before a block, its own 1024 rows, and the 64 rows after it.
-/

@[expose] public section

set_option maxRecDepth 16384

noncomputable section

namespace Cert.Attn

open Idealize.ShloMosaic Idealize.ShloMosaic.TcCoe Idealize.ShloMosaic.Tactic
open Cert.KernelIdeal Cert.KernelIdeal.Gen

/-- The buffer's row `ρ`: of the block before, of the block, of the block after. -/
def bufRow (xp : Vec Ideal S1x64x512 .bf16) (x : Vec Ideal S1x1024x512 .bf16) (xn : Vec Ideal S1x64x512 .bf16)
    (ρ : Fin 1152) (l : Fin 512) : EReal :=
  if h : ρ.val < 64 then xp (ix3 0 ⟨ρ.val, h⟩ l)
  else if h : ρ.val < 1088 then x (ix3 0 ⟨ρ.val - 64, by omega⟩ l)
  else xn (ix3 0 ⟨ρ.val - 1088, by omega⟩ l)

/-- A flank's rows, read through the two casts that store it. -/
theorem flank_apply (x : Vec Ideal S1x64x512 .bf16) (r : Fin 64) (l : Fin 512) :
    shapeCast S64x512 (shapeCast S64x512 x shapeCasts_S1x64x512_S64x512) shapeCasts_S64x512_S64x512 (ix2 r l)
      = x (ix3 0 r l) := by
  rw [shapeCast_self]
  refine (shapeCast_dropUnit_apply ![64, 512] _ _ (ix2 r l)).trans ?_
  exact congrArg x (funext fun e => by fin_cases e <;> rfl)

/-- The block's rows, read through the two casts that store it. -/
theorem middle_apply (x : Vec Ideal S1x1024x512 .bf16) (r : Fin 1024) (l : Fin 512) :
    shapeCast S1024x512 (shapeCast S1024x512 x shapeCasts_S1x1024x512_S1024x512) shapeCasts_S1024x512_S1024x512 (ix2 r l)
      = x (ix3 0 r l) := by
  rw [shapeCast_self]
  refine (shapeCast_dropUnit_apply ![1024, 512] _ _ (ix2 r l)).trans ?_
  exact congrArg x (funext fun e => by fin_cases e <;> rfl)

section Entry
variable (xp : Vec Ideal S1x64x512 .bf16) (x : Vec Ideal S1x1024x512 .bf16) (xn : Vec Ideal S1x64x512 .bf16)

theorem bufRow_prev (ρ : Fin 1152) (r : Fin 64) (h : ρ.val = r.val) (l : Fin 512) :
    bufRow xp x xn ρ l = xp (ix3 0 r l) := by
  unfold bufRow
  rw [dif_pos (by omega)]
  exact congrArg (fun r => xp (ix3 0 r l)) (Fin.ext h)

theorem bufRow_own (ρ : Fin 1152) (r : Fin 1024) (h : ρ.val = 64 + r.val) (l : Fin 512) :
    bufRow xp x xn ρ l = x (ix3 0 r l) := by
  unfold bufRow
  rw [dif_neg (by omega), dif_pos (by omega)]
  exact congrArg (fun r => x (ix3 0 r l)) (Fin.ext (by simp only; omega))

theorem bufRow_next (ρ : Fin 1152) (r : Fin 64) (h : ρ.val = 1088 + r.val) (l : Fin 512) :
    bufRow xp x xn ρ l = xn (ix3 0 r l) := by
  unfold bufRow
  rw [dif_neg (by omega), dif_neg (by omega)]
  exact congrArg (fun r => xn (ix3 0 r l)) (Fin.ext (by simp only; omega))

/-- The contents of the buffer, index by index. -/
def bufAt (y : S1152x512.Idx) : Elt Ideal .bf16 := bufRow xp x xn (y 0) (y 1)

theorem next_eq (z : (nextPiece xn).1.shape.Idx) : (nextPiece xn).2 z = bufAt xp x xn ((nextPiece xn).1.emb z) := by
  obtain ⟨r, l, rfl⟩ : ∃ (r : Fin 64) (l : Fin 512), z = ix2 r l := ⟨z 0, z 1, (ix2_eta z).symm⟩
  have e1 : ((nextPiece xn).1.emb (ix2 r l) 1 : Fin 512) = l :=
    Fin.ext ((congrArg (0 + ·) (Nat.one_mul l.val)).trans (Nat.zero_add l.val))
  refine (flank_apply xn r l).trans ((bufRow_next xp x xn _ r ?_ l).symm.trans (congrArg (bufRow xp x xn _) e1.symm))
  exact congrArg (1088 + ·) (Nat.one_mul r.val)

theorem own_eq (z : (ownPiece x).1.shape.Idx) : (ownPiece x).2 z = bufAt xp x xn ((ownPiece x).1.emb z) := by
  obtain ⟨r, l, rfl⟩ : ∃ (r : Fin 1024) (l : Fin 512), z = ix2 r l := ⟨z 0, z 1, (ix2_eta z).symm⟩
  have e1 : ((ownPiece x).1.emb (ix2 r l) 1 : Fin 512) = l :=
    Fin.ext ((congrArg (0 + ·) (Nat.one_mul l.val)).trans (Nat.zero_add l.val))
  refine (middle_apply x r l).trans ((bufRow_own xp x xn _ r ?_ l).symm.trans (congrArg (bufRow xp x xn _) e1.symm))
  exact congrArg (64 + ·) (Nat.one_mul r.val)

theorem prev_eq (z : (prevPiece xp).1.shape.Idx) : (prevPiece xp).2 z = bufAt xp x xn ((prevPiece xp).1.emb z) := by
  obtain ⟨r, l, rfl⟩ : ∃ (r : Fin 64) (l : Fin 512), z = ix2 r l := ⟨z 0, z 1, (ix2_eta z).symm⟩
  have e1 : ((prevPiece xp).1.emb (ix2 r l) 1 : Fin 512) = l :=
    Fin.ext ((congrArg (0 + ·) (Nat.one_mul l.val)).trans (Nat.zero_add l.val))
  refine (flank_apply xp r l).trans ((bufRow_prev xp x xn _ r ?_ l).symm.trans (congrArg (bufRow xp x xn _) e1.symm))
  exact (congrArg (0 + ·) (Nat.one_mul r.val)).trans (Nat.zero_add _)

/-- The buffer at an entry. -/
theorem buf_apply (ρ : Fin 1152) (l : Fin 512) : View.canon (bufPieces xp x xn) (ix2 ρ l) = bufRow xp x xn ρ l := by
  refine View.canon_apply_of_pieces (Val := Elt Ideal) (S := S1152x512) (e := .bf16) (bufAt xp x xn) (bufPieces xp x xn) ?_
    (ix2 ρ l) ?_
  · intro p hp
    simp only [bufPieces, List.mem_cons, List.not_mem_nil, or_false] at hp
    rcases hp with rfl | rfl | rfl
    · exact next_eq xp x xn
    · exact own_eq xp x xn
    · exact prev_eq xp x xn
  · have hρ := ρ.isLt
    have hl := l.isLt
    by_cases h1 : ρ.val < 64
    · refine ⟨prevPiece xp, by simp [bufPieces], (Rect.mem_set_unit (inb := inb_S1152x512_S64x512_0_0)).mpr fun e => ?_⟩
      fin_cases e
      · show 0 ≤ ρ.val ∧ ρ.val < 0 + 64
        omega
      · show 0 ≤ l.val ∧ l.val < 0 + 512
        omega
    · by_cases h2 : ρ.val < 1088
      · refine ⟨ownPiece x, by simp [bufPieces], (Rect.mem_set_unit (inb := inb_S1152x512_S1024x512_64_0)).mpr fun e => ?_⟩
        fin_cases e
        · show 64 ≤ ρ.val ∧ ρ.val < 64 + 1024
          omega
        · show 0 ≤ l.val ∧ l.val < 0 + 512
          omega
      · refine ⟨nextPiece xn, by simp [bufPieces], (Rect.mem_set_unit (inb := inb_S1152x512_S64x512_1088_0)).mpr fun e => ?_⟩
        fin_cases e
        · show 1088 ≤ ρ.val ∧ ρ.val < 1088 + 64
          omega
        · show 0 ≤ l.val ∧ l.val < 0 + 512
          omega

end Entry

end Cert.Attn

end
-- ==== Proof.Attn.Arrays.lean ====
module

public import proofs.«01_k».proof.Proof.Attn.Buffer
public import Idealize.ShloMosaic.Lib.Pipeline.ValueKit.Geometry

/-!
# The attention kernel's arrays after the run

A grid point reads its blocks off the arguments; so every entry of the two outputs is the row's weighted sum of the
values, its maximum or its sum.
-/

@[expose] public section

set_option maxRecDepth 16384

noncomputable section

namespace Cert.Attn

open Idealize.ShloMosaic Idealize.ShloMosaic.TcCoe Idealize.ShloMosaic.Tactic Idealize.SL.Sem
open Cert.KernelIdeal Cert.KernelIdeal.Gen

variable (m : (ℓ : Loc nD τ sig) → Buf (Elt Ideal) ℓ) (c : Dev nD)

/-- The queries. -/
abbrev argQ : Arr := m ((c : Thread nD τ).loc main_arg0)
/-- The keys. -/
abbrev argK : Arr := m ((c : Thread nD τ).loc main_arg1)
/-- The values. -/
abbrev argV : Arr := m ((c : Thread nD τ).loc main_arg2)

theorem V_v0 : V m c main_v0 = shapeCast S16x2048x512 (m ((c : Thread nD τ).loc main_arg0)) shapeCasts_S32768x512_S16x2048x512 := by
  unfold_abbrev_sides; after_results; rfl
theorem V_v1 : V m c main_v1 = shapeCast S16x2048x512 (m ((c : Thread nD τ).loc main_arg1)) shapeCasts_S32768x512_S16x2048x512 := by
  unfold_abbrev_sides; after_results; rfl
theorem V_v2 : V m c main_v2 = shapeCast S16x2048x512 (m ((c : Thread nD τ).loc main_arg1)) shapeCasts_S32768x512_S16x2048x512 := by
  unfold_abbrev_sides; after_results; rfl
theorem V_v3 : V m c main_v3 = shapeCast S16x2048x512 (m ((c : Thread nD τ).loc main_arg1)) shapeCasts_S32768x512_S16x2048x512 := by
  unfold_abbrev_sides; after_results; rfl
theorem V_v4 : V m c main_v4 = shapeCast S16x2048x512 (m ((c : Thread nD τ).loc main_arg2)) shapeCasts_S32768x512_S16x2048x512 := by
  unfold_abbrev_sides; after_results; rfl
theorem V_v5 : V m c main_v5 = shapeCast S16x2048x512 (m ((c : Thread nD τ).loc main_arg2)) shapeCasts_S32768x512_S16x2048x512 := by
  unfold_abbrev_sides; after_results; rfl
theorem V_v6 : V m c main_v6 = shapeCast S16x2048x512 (m ((c : Thread nD τ).loc main_arg2)) shapeCasts_S32768x512_S16x2048x512 := by
  unfold_abbrev_sides; after_results; rfl

/-- An argument seen as 16 sequences. -/
theorem seq_apply (x : Arr) (y : S16x2048x512.Idx) :
    shapeCast S16x2048x512 (x : Vec Ideal S32768x512 .bf16) shapeCasts_S32768x512_S16x2048x512 y = ent x (y 0) (y 1) (y 2) := by
  idx_vars y
  pointwise
  exact congrArg (fun r => x (ix2 r y2)) (Fin.ext (by simp only; omega))

/-- The entry of an argument depends on the coordinates' values alone. -/
theorem ent_congr (x : Arr) {n n' : Fin 16} {s s' : Fin 2048} {l l' : Fin 512} (hn : n.val = n'.val) (hs : s.val = s'.val)
    (hl : l.val = l'.val) : ent x n s l = ent x n' s' l' := by
  rw [Fin.ext hn, Fin.ext hs, Fin.ext hl]

theorem index0 : ∀ t : Fin cfg0.N, win0_0.index t = ![(grid0.coords t 0).val, (grid0.coords t 1).val, 0] :=
  (by decide +kernel : ∀ t : Fin grid0.N, _)
theorem index1 : ∀ t : Fin cfg0.N, win0_1.index t = ![(grid0.coords t 0).val, (grid0.coords t 1).val * 16 - 1, 0] :=
  (by decide +kernel : ∀ t : Fin grid0.N, _)
theorem index2 : ∀ t : Fin cfg0.N, win0_2.index t = ![(grid0.coords t 0).val, (grid0.coords t 1).val, 0] :=
  (by decide +kernel : ∀ t : Fin grid0.N, _)
theorem index3 : ∀ t : Fin cfg0.N,
    win0_3.index t = ![(grid0.coords t 0).val, min (((grid0.coords t 1).val + 1) * 16) 31, 0] :=
  (by decide +kernel : ∀ t : Fin grid0.N, _)
theorem index4 : ∀ t : Fin cfg0.N, win0_4.index t = ![(grid0.coords t 0).val, (grid0.coords t 1).val * 16 - 1, 0] :=
  (by decide +kernel : ∀ t : Fin grid0.N, _)
theorem index5 : ∀ t : Fin cfg0.N, win0_5.index t = ![(grid0.coords t 0).val, (grid0.coords t 1).val, 0] :=
  (by decide +kernel : ∀ t : Fin grid0.N, _)
theorem index6 : ∀ t : Fin cfg0.N,
    win0_6.index t = ![(grid0.coords t 0).val, min (((grid0.coords t 1).val + 1) * 16) 31, 0] :=
  (by decide +kernel : ∀ t : Fin grid0.N, _)
theorem index7 : ∀ t : Fin cfg0.N, win0_7.index t = ![(grid0.coords t 0).val, 0, (grid0.coords t 1).val, 0] :=
  (by decide +kernel : ∀ t : Fin grid0.N, _)
theorem index8 : ∀ t : Fin cfg0.N, win0_8.index t = ![(grid0.coords t 0).val, (grid0.coords t 1).val, 0] :=
  (by decide +kernel : ∀ t : Fin grid0.N, _)

/-- A point's query block. -/
theorem holdsQ (t : Fin cfg0.N) : HoldsQ (argQ m c) (grid0.coords t 0) (grid0.coords t 1).val (iblk m c 0 t) := by
  intro ρ l s hs
  show V m c main_v0 ((win0_0.blk t).view.emb (ix3 0 ρ l)) = _
  rw [V_v0, seq_apply]
  refine ent_congr _ ?_ ?_ ?_
  · blk_simp [index0]; simp
  · blk_simp [index0]; simp; omega
  · blk_simp [index0]

/-- A point's key buffer. -/
theorem holdsK (t : Fin cfg0.N) : HoldsK (argK m c) (grid0.coords t 0) (grid0.coords t 1).val
    (bufPieces (iblk m c 1 t) (iblk m c 2 t) (iblk m c 3 t)) := by
  intro ρ l j hj
  have hi : (grid0.coords t 1).val < 2 := (grid0.coords t 1).isLt
  have hj' := j.isLt
  rw [buf_apply]
  by_cases h1 : ρ.val < 64
  · rw [bufRow_prev _ _ _ ρ ⟨ρ.val, h1⟩ rfl]
    show V m c main_v1 ((win0_1.blk t).view.emb (ix3 0 ⟨ρ.val, h1⟩ l)) = _
    rw [V_v1, seq_apply]
    refine ent_congr _ ?_ ?_ ?_
    · blk_simp [index1]; simp
    · blk_simp [index1]; simp; omega
    · blk_simp [index1]
  by_cases h2 : ρ.val < 1088
  · rw [bufRow_own _ _ _ ρ ⟨ρ.val - 64, by omega⟩ (by simp only; omega)]
    show V m c main_v2 ((win0_2.blk t).view.emb (ix3 0 ⟨ρ.val - 64, by omega⟩ l)) = _
    rw [V_v2, seq_apply]
    refine ent_congr _ ?_ ?_ ?_
    · blk_simp [index2]; simp
    · blk_simp [index2]; simp; omega
    · blk_simp [index2]
  · rw [bufRow_next _ _ _ ρ ⟨ρ.val - 1088, by omega⟩ (by simp only; omega)]
    show V m c main_v3 ((win0_3.blk t).view.emb (ix3 0 ⟨ρ.val - 1088, by omega⟩ l)) = _
    rw [V_v3, seq_apply]
    refine ent_congr _ ?_ ?_ ?_
    · blk_simp [index3]; simp
    · blk_simp [index3]; simp; omega
    · blk_simp [index3]

/-- A point's value buffer. -/
theorem holdsV (t : Fin cfg0.N) : HoldsK (argV m c) (grid0.coords t 0) (grid0.coords t 1).val
    (bufPieces (iblk m c 4 t) (iblk m c 5 t) (iblk m c 6 t)) := by
  intro ρ l j hj
  have hi : (grid0.coords t 1).val < 2 := (grid0.coords t 1).isLt
  have hj' := j.isLt
  rw [buf_apply]
  by_cases h1 : ρ.val < 64
  · rw [bufRow_prev _ _ _ ρ ⟨ρ.val, h1⟩ rfl]
    show V m c main_v4 ((win0_4.blk t).view.emb (ix3 0 ⟨ρ.val, h1⟩ l)) = _
    rw [V_v4, seq_apply]
    refine ent_congr _ ?_ ?_ ?_
    · blk_simp [index4]; simp
    · blk_simp [index4]; simp; omega
    · blk_simp [index4]
  by_cases h2 : ρ.val < 1088
  · rw [bufRow_own _ _ _ ρ ⟨ρ.val - 64, by omega⟩ (by simp only; omega)]
    show V m c main_v5 ((win0_5.blk t).view.emb (ix3 0 ⟨ρ.val - 64, by omega⟩ l)) = _
    rw [V_v5, seq_apply]
    refine ent_congr _ ?_ ?_ ?_
    · blk_simp [index5]; simp
    · blk_simp [index5]; simp; omega
    · blk_simp [index5]
  · rw [bufRow_next _ _ _ ρ ⟨ρ.val - 1088, by omega⟩ (by simp only; omega)]
    show V m c main_v6 ((win0_6.blk t).view.emb (ix3 0 ⟨ρ.val - 1088, by omega⟩ l)) = _
    rw [V_v6, seq_apply]
    refine ent_congr _ ?_ ?_ ?_
    · blk_simp [index6]; simp
    · blk_simp [index6]; simp; omega
    · blk_simp [index6]

/-- The accumulator after the run: each row's weighted sum of the values. -/
def accAll (y : S16x4x2048x128.Idx) : EReal :=
  rowNumer (argQ m c) (argK m c) (argV m c) (y 0) (headOf (y 1) (y 3)) (y 2) (laneOf (y 3))

/-- The statistics after the run. -/
def stAll (y : S16x2048x128.Idx) : EReal := statOf (argQ m c) (argK m c) (y 0) (y 1) (y 2)

/-- The first output. -/
theorem acc_run : (dats m 0 c).arrAt 7 cfg0.N = accAll m c := by
  refine (dats m 0 c).arrAt_eq_of_covers 7 _ (by decide +kernel) fun t hf y => ?_
  blk_simp
  rw [after0_7]
  simp only [outsAt0]
  rw [out7_eq]
  obtain ⟨y0, hp, ρ, d, rfl⟩ : ∃ (y0 : Fin 1) (hp : Fin 4) (ρ : Fin 1024) (d : Fin 128), y = ix4 y0 hp ρ d :=
    ⟨y 0, y 1, y 2, y 3, (ix4_eta y).symm⟩
  obtain rfl : y0 = 0 := Subsingleton.elim _ _
  have hi : (grid0.coords t 1).val < 2 := (grid0.coords t 1).isLt
  obtain ⟨s, hs⟩ : ∃ s : Fin 2048, s.val = 1024 * (grid0.coords t 1).val + ρ.val := ⟨⟨_, by omega⟩, rfl⟩
  refine (acc_apply (holdsQ m c t) (holdsK m c t) (holdsV m c t) hp ρ d s hs).trans ?_
  have e0 : ((win0_7.blk t).view.emb (ix4 0 hp ρ d) 0 : Fin 16) = grid0.coords t 0 := Fin.ext (by blk_simp [index7]; simp)
  have e1 : ((win0_7.blk t).view.emb (ix4 0 hp ρ d) 1 : Fin 4) = hp := Fin.ext (by blk_simp [index7])
  have e2 : ((win0_7.blk t).view.emb (ix4 0 hp ρ d) 2 : Fin 2048) = s :=
    Fin.ext (by rw [hs]; blk_simp [index7]; simp; omega)
  have e3 : ((win0_7.blk t).view.emb (ix4 0 hp ρ d) 3 : Fin 128) = d := Fin.ext (by blk_simp [index7])
  show _ = rowNumer (argQ m c) (argK m c) (argV m c) _ (headOf _ _) _ (laneOf _)
  rw [e0, e1, e2, e3]

/-- The second output. -/
theorem st_run : (dats m 0 c).arrAt 8 cfg0.N = stAll m c := by
  refine (dats m 0 c).arrAt_eq_of_covers 8 _ (by decide +kernel) fun t hf y => ?_
  blk_simp
  rw [after0_8]
  simp only [outsAt0]
  rw [out8_eq]
  obtain ⟨y0, ρ, d, rfl⟩ : ∃ (y0 : Fin 1) (ρ : Fin 1024) (d : Fin 128), y = ix3 y0 ρ d :=
    ⟨y 0, y 1, y 2, (ix3_eta y).symm⟩
  obtain rfl : y0 = 0 := Subsingleton.elim _ _
  have hi : (grid0.coords t 1).val < 2 := (grid0.coords t 1).isLt
  obtain ⟨s, hs⟩ : ∃ s : Fin 2048, s.val = 1024 * (grid0.coords t 1).val + ρ.val := ⟨⟨_, by omega⟩, rfl⟩
  refine (st_apply (holdsQ m c t) (holdsK m c t) ρ d s hs).trans ?_
  have e0 : ((win0_8.blk t).view.emb (ix3 0 ρ d) 0 : Fin 16) = grid0.coords t 0 := Fin.ext (by blk_simp [index8]; simp)
  have e1 : ((win0_8.blk t).view.emb (ix3 0 ρ d) 1 : Fin 2048) = s :=
    Fin.ext (by rw [hs]; blk_simp [index8]; simp; omega)
  have e2 : ((win0_8.blk t).view.emb (ix3 0 ρ d) 2 : Fin 128) = d := Fin.ext (by blk_simp [index8])
  show _ = statOf (argQ m c) (argK m c) _ _ _
  rw [e0, e1, e2]

end Cert.Attn

end
-- ==== Proof.Attn.Reference.lean ====
module

public import proofs.«01_k».proof.Proof.Attn.Rows
public import proofs.«01_k».proof.Proof.Gen.ReferenceIdeal.Read
public import Idealize.ShloMosaic.Lib.KernelVsHost
public import Idealize.ShloMosaic.Lib.Pipeline.Value

/-!
# What the attention's reference computes

Each stage of the dense, masked reference read at an index, up to its two results.
-/

@[expose] public section

set_option maxRecDepth 16384

noncomputable section

namespace Cert.Attn.Ref

open Idealize.ShloMosaic Idealize.ShloMosaic.TcCoe Idealize.ShloMosaic.Tactic
open Cert.ReferenceIdeal Cert.ReferenceIdeal.Gen Cert.ReferenceIdeal.Read

variable (q k v : Arr)

/-- The queries, split into heads. -/
theorem query_apply (n : Fin 16) (s : Fin 2048) (h : Fin 8) (e : Fin 64) :
    (val_main_v1 (F := Ideal) q) (ix4 n s h e) = ent q n s (lane h e) := by
  rw [val_main_v1_apply, val_main_v0_apply]
  show q (idx_main_v1 _) = q _
  refine congrArg q (funext fun a => Fin.ext ?_)
  have := n.isLt; have := s.isLt; have := h.isLt; have := e.isLt
  match a with
  | ⟨0, _⟩ => show (((n.val * 2048 + s.val) * 8 + h.val) * 64 + e.val) / 512 = 2048 * n.val + s.val; omega
  | ⟨1, _⟩ => show (((n.val * 2048 + s.val) * 8 + h.val) * 64 + e.val) % 512 = 64 * h.val + e.val; omega

/-- The keys, split into heads. -/
theorem key_apply (n : Fin 16) (s : Fin 2048) (h : Fin 8) (e : Fin 64) :
    (val_main_v3 (F := Ideal) k) (ix4 n s h e) = ent k n s (lane h e) := by
  rw [val_main_v3_apply, val_main_v2_apply]
  show k (idx_main_v3 _) = k _
  refine congrArg k (funext fun a => Fin.ext ?_)
  have := n.isLt; have := s.isLt; have := h.isLt; have := e.isLt
  match a with
  | ⟨0, _⟩ => show (((n.val * 2048 + s.val) * 8 + h.val) * 64 + e.val) / 512 = 2048 * n.val + s.val; omega
  | ⟨1, _⟩ => show (((n.val * 2048 + s.val) * 8 + h.val) * 64 + e.val) % 512 = 64 * h.val + e.val; omega

/-- The values, split into heads. -/
theorem value_apply (n : Fin 16) (s : Fin 2048) (h : Fin 8) (e : Fin 64) :
    (val_main_v5 (F := Ideal) v) (ix4 n s h e) = ent v n s (lane h e) := by
  rw [val_main_v5_apply, val_main_v4_apply]
  show v (idx_main_v5 _) = v _
  refine congrArg v (funext fun a => Fin.ext ?_)
  have := n.isLt; have := s.isLt; have := h.isLt; have := e.isLt
  match a with
  | ⟨0, _⟩ => show (((n.val * 2048 + s.val) * 8 + h.val) * 64 + e.val) / 512 = 2048 * n.val + s.val; omega
  | ⟨1, _⟩ => show (((n.val * 2048 + s.val) * 8 + h.val) * 64 + e.val) % 512 = 64 * h.val + e.val; omega

/-- The word of a power of two, read as an integer. -/
theorem pow_word : ∀ h : Fin 8, (IntOp.shli .host (2#32) (BitVec.ofNat 32 h.val)).toInt = (2 : ℤ) ^ (h.val + 1) := by
  decide +kernel

/-- A head's slope. -/
theorem slope_apply (h : Fin 8) : (val_main_v11 (F := Ideal)) (ix1 h) = slope h := by
  rw [val_main_v11_apply, val_main_v10_apply, val_main_cst_apply, val_main_v9_apply, val_main_v8_apply,
    val_main_v7_apply, val_main_c_apply, val_main_v6_apply, Ideal.hostDivf_def]
  show Ideal.div (Ideal.ofBits .f32 0x3F800000#32)
    ((((IntOp.shli .host (2#32) (BitVec.ofNat 32 h.val)).toInt : ℤ) : ℝ) : EReal) = _
  have one : Ideal.ofBits .f32 0x3F800000#32 = 1 := by
    simp [Ideal.ofBits, Ideal.ieee, -EReal.coe_mul]; norm_num
  have hp : (((2 : ℤ) ^ (h.val + 1) : ℤ) : ℝ) = (2 : ℝ) ^ (h.val + 1) := by push_cast; rfl
  rw [pow_word, one, hp, Ideal.div_coe (by positivity), one_mul, one_div]
  rfl

/-- The distance word of a query row and a key row. -/
theorem gap_word (s j : Fin 2048) :
    IntOp.absi (IntOp.subi (BitVec.ofNat 32 j.val) (BitVec.ofNat 32 s.val)) = BitVec.ofNat 32 (gap s j) := by
  have hs := s.isLt
  have hj := j.isLt
  apply BitVec.eq_of_toNat_eq
  unfold IntOp.absi IntOp.subi gap
  have hm : (BitVec.ofNat 32 j.val - BitVec.ofNat 32 s.val).msb = decide (j.val < s.val) := by
    rw [BitVec.msb_eq_decide]
    simp only [BitVec.toNat_sub, BitVec.toNat_ofNat]
    congr 1
    apply propext
    omega
  rw [hm]
  by_cases h : j.val < s.val
  · rw [if_pos (by simpa using h)]
    simp only [BitVec.toNat_neg, BitVec.toNat_sub, BitVec.toNat_ofNat]
    omega
  · rw [if_neg (by simpa using h)]
    simp only [BitVec.toNat_sub, BitVec.toNat_ofNat]
    omega

/-- A distance is small. -/
theorem gap_lt (s j : Fin 2048) : gap s j < 2048 := by
  have := s.isLt; have := j.isLt; unfold gap; omega

/-- The distance word at an entry, as the mask reads it. -/
theorem absA_apply (s j : Fin 2048) : (val_main_v20 (F := Ideal)) (ix2 s j) = BitVec.ofNat 32 (gap s j) := by
  rw [val_main_v20_apply, val_main_v19_apply, val_main_v17_apply, val_main_v14_apply, val_main_v13_apply,
    val_main_v18_apply, val_main_v16_apply, val_main_v15_apply]
  exact gap_word s j

/-- The same, as the bias reads it. -/
theorem absB_apply (s j : Fin 2048) : (val_main_v25 (F := Ideal)) (ix2 s j) = BitVec.ofNat 32 (gap s j) := by
  rw [val_main_v25_apply, val_main_v19_apply, val_main_v17_apply, val_main_v14_apply, val_main_v13_apply,
    val_main_v18_apply, val_main_v16_apply, val_main_v15_apply]
  exact gap_word s j

/-- The band's mask at an entry. -/
theorem band_apply (s j : Fin 2048) :
    (val_main_v22 (F := Ideal)) (ix2 s j) = BitVec.ofBool (decide (gap s j ≤ 64)) := by
  rw [val_main_v22_apply, absA_apply, val_main_v21_apply, val_main_c_0_apply]
  have hg := gap_lt s j
  show BitVec.ofBool (BitVec.sle (BitVec.ofNat 32 (gap s j)) 64#32) = _
  congr 1
  rw [BitVec.sle_eq_decide, WordCmp.toInt_ofNat_of_lt (by omega)]
  have : (64#32 : BitVec 32).toInt = 64 := by decide
  rw [this]
  apply decide_eq_decide.mpr
  omega

/-- The distance at an entry. -/
theorem dist_apply (s j : Fin 2048) : (val_main_v28 (F := Ideal)) (ix2 s j) = ((gap s j : ℝ) : EReal) := by
  rw [val_main_v28_apply, val_main_v27_apply, absB_apply, val_main_v26_apply, val_main_c_1_apply]
  have hg := gap_lt s j
  show (((IntOp.muli 1#32 (BitVec.ofNat 32 (gap s j))).toInt : ℝ) : EReal) = _
  have : IntOp.muli 1#32 (BitVec.ofNat 32 (gap s j)) = BitVec.ofNat 32 (gap s j) := by
    unfold IntOp.muli; simp
  rw [this, WordCmp.toInt_ofNat_of_lt (by omega)]
  simp

/-- The bias at an entry. -/
theorem bias_apply (n : Fin 16) (h : Fin 8) (s j : Fin 2048) :
    (val_main_v35 (F := Ideal)) (ix4 n h s j) = -(slope h * ((gap s j : ℝ) : EReal)) := by
  rw [val_main_v35_apply, val_main_v34_apply, val_main_v32_apply, val_main_v30_apply, val_main_v24_apply,
    val_main_v23_apply, val_main_v31_apply, val_main_v29_apply]
  have e1 : idx_main_v23 (idx_main_v30 (idx_main_v34 (idx_main_v35 (ix4 n h s j)))) = ix1 h :=
    funext fun a => match a with | ⟨0, _⟩ => rfl
  have e2 : idx_main_v29 (idx_main_v31 (idx_main_v34 (idx_main_v35 (ix4 n h s j)))) = ix2 s j :=
    funext fun a => match a with | ⟨0, _⟩ => rfl | ⟨1, _⟩ => rfl
  rw [e1, e2, slope_apply, dist_apply]
  show (-(slope h) : EReal) * _ = _
  exact EReal.neg_mul _ _

/-- The score at an entry. -/
theorem score_apply (n : Fin 16) (h : Fin 8) (s j : Fin 2048) :
    (val_main_v37 (F := Ideal) q k) (ix4 n h s j) = logit q k n h s j := by
  rw [val_main_v37_apply, val_main_v36_apply, val_main_call0_v1_apply, val_main_v33_apply, val_main_call0_v2_apply,
    val_main_call0_v0_apply, val_main_cst_2_apply, bias_apply, val_main_v12_apply]
  have e1 : idx_main_v33 (idx_main_call0_v1 (ix4 n h s j)) = ix2 s j :=
    funext fun a => match a with | ⟨0, _⟩ => rfl | ⟨1, _⟩ => rfl
  have e2 : ∀ e : Fin 64, lidx_main_v12 (ix4 n h s j) e = ix4 n s h e := fun e =>
    funext fun a => match a with | ⟨0, _⟩ => rfl | ⟨1, _⟩ => rfl | ⟨2, _⟩ => rfl | ⟨3, _⟩ => rfl
  have e3 : ∀ e : Fin 64, ridx_main_v12 (ix4 n h s j) e = ix4 n j h e := fun e =>
    funext fun a => match a with | ⟨0, _⟩ => rfl | ⟨1, _⟩ => rfl | ⟨2, _⟩ => rfl | ⟨3, _⟩ => rfl
  rw [e1, band_apply]
  simp only [e2, e3, query_apply, key_apply]
  have hb : (FloatOps.ofBits .f32 0xFF800000#32 : Ideal .f32) = (⊥ : EReal) := by
    show Ideal.ofBits .f32 0xFF800000#32 = ⊥
    simp [Ideal.ofBits, Ideal.ieee]
  rw [hb]
  unfold logit
  show (if BitVec.ofBool (decide (gap s j ≤ 64)) = 1 then _ + _ else _) = _
  refine if_congr (by rw [WordCmp.ofBool_eq_one_iff', decide_eq_true_eq]) ?_ rfl
  rw [sub_eq_add_neg]

/-- A row's maximum. -/
theorem top_apply (n : Fin 16) (h : Fin 8) (s : Fin 2048) :
    (val_main_v38 (F := Ideal) q k) (ix3 n h s) = rowTop q k n h s := by
  have hr : Shape.Reduces S16x8x2048x2048 [3] S16x8x2048 := by decide
  show Host.reduce FloatOps.maximumf (val_main_v37 (F := Ideal) q k)
    (constant (F := Ideal) S_ .f32 0xFF800000#32) reducesTo_S16x8x2048x2048_S16x8x2048_d3 h_S_ _ = _
  rw [hostReduce_maximumf_eq_multiReduction _ (0xFF800000#32) _ _ hr (Or.inl rfl) rfl]
  refine (Ideal.multiReduction_maximumf_single (φ := .f32) (val_main_v37 (F := Ideal) q k) (0xFF800000#32) hr
    (Or.inl rfl) rfl _).trans ?_
  have hb : (FloatOps.ofBits .f32 0xFF800000#32 : Ideal .f32) = (⊥ : EReal) := by
    show Ideal.ofBits .f32 0xFF800000#32 = ⊥
    simp [Ideal.ofBits, Ideal.ieee]
  refine Eq.trans (congrArg (fun b => Finset.univ.fold max b _) hb) ?_
  unfold rowTop
  show Finset.univ.fold max ⊥ _ = _
  refine Finset.fold_congr fun j _ => ?_
  refine Eq.trans ?_ (score_apply q k n h s j)
  show val_main_v37 (F := Ideal) q k (hr.lift (ix3 n h s) j) = _
  refine congrArg _ (funext fun a => Fin.ext ?_)
  match a with
  | ⟨0, _⟩ => rfl
  | ⟨1, _⟩ => rfl
  | ⟨2, _⟩ => rfl
  | ⟨3, _⟩ => rfl

/-- A weight. -/
theorem weight_apply (n : Fin 16) (h : Fin 8) (s j : Fin 2048) :
    (val_main_v42 (F := Ideal) q k) (ix4 n h s j) = weight q k n h s j := by
  rw [val_main_v42_apply, val_main_v41_apply, val_main_v40_apply, val_main_v39_apply, score_apply]
  have e1 : idx_main_v39 (idx_main_v40 (ix4 n h s j)) = ix3 n h s :=
    funext fun a => match a with | ⟨0, _⟩ => rfl | ⟨1, _⟩ => rfl | ⟨2, _⟩ => rfl
  rw [e1, top_apply]
  rfl

/-- A row's sum of weights. -/
theorem total_apply (n : Fin 16) (h : Fin 8) (s : Fin 2048) :
    (val_main_v43 (F := Ideal) q k) (ix3 n h s) = rowTotal q k n h s := by
  rw [val_main_v43_apply, val_main_cst_4_apply]
  have hb : (FloatOps.ofBits .f32 0x00000000#32 : Ideal .f32) = (0 : EReal) := by
    show Ideal.ofBits .f32 0x00000000#32 = 0
    simp [Ideal.ofBits, Ideal.ieee]
  have e1 : ∀ j : Fin 2048, idx_main_v43 (ix3 n h s) j = ix4 n h s j := fun j =>
    funext fun a => match a with | ⟨0, _⟩ => rfl | ⟨1, _⟩ => rfl | ⟨2, _⟩ => rfl | ⟨3, _⟩ => rfl
  rw [hb]
  simp only [e1, weight_apply]
  exact zero_add _

/-- A row's weighted sum of the values. -/
theorem numer_apply (n : Fin 16) (h : Fin 8) (e : Fin 64) (s : Fin 2048) :
    (val_main_v44 (F := Ideal) q k v) (ix4 n h e s) = rowNumer q k v n h s e := by
  rw [val_main_v44_apply]
  have e1 : ∀ j : Fin 2048, lidx_main_v44 (ix4 n h e s) j = ix4 n j h e := fun j =>
    funext fun a => match a with | ⟨0, _⟩ => rfl | ⟨1, _⟩ => rfl | ⟨2, _⟩ => rfl | ⟨3, _⟩ => rfl
  have e2 : ∀ j : Fin 2048, ridx_main_v44 (ix4 n h e s) j = ix4 n h s j := fun j =>
    funext fun a => match a with | ⟨0, _⟩ => rfl | ⟨1, _⟩ => rfl | ⟨2, _⟩ => rfl | ⟨3, _⟩ => rfl
  simp only [e1, e2, weight_apply, value_apply]
  exact Finset.sum_congr rfl fun j _ => mul_comm _ _

/-- The first result. -/
theorem acc_apply (n : Fin 16) (p : Fin 4) (s : Fin 2048) (d : Fin 128) :
    (val_main_v47 (F := Ideal) q k v) (ix4 n p s d) = rowNumer q k v n (headOf p d) s (laneOf d) := by
  rw [val_main_v47_apply, val_main_v46_apply, val_main_v45_apply, ← numer_apply]
  refine congrArg _ (funext fun a => Fin.ext ?_)
  have := n.isLt; have := s.isLt; have := p.isLt; have := d.isLt
  match a with
  | ⟨0, _⟩ => show (((n.val * 2048 + s.val) * 4 + p.val) * 128 + d.val) / 1048576 = n.val; omega
  | ⟨1, _⟩ => show (((n.val * 2048 + s.val) * 4 + p.val) * 128 + d.val) / 64 % 8 = 2 * p.val + d.val / 64; omega
  | ⟨2, _⟩ => show (((n.val * 2048 + s.val) * 4 + p.val) * 128 + d.val) % 64 = d.val % 64; omega
  | ⟨3, _⟩ => show (((n.val * 2048 + s.val) * 4 + p.val) * 128 + d.val) / 512 % 2048 = s.val; omega

/-- Three pieces side by side: 8 lanes, 8 lanes and 112 lanes. -/
theorem pieces_apply (x y : S16x2048x8.Idx → EReal) (z : S16x2048x112.Idx → EReal) (n : Fin 16) (s : Fin 2048)
    (l : Fin 128) :
    concatenate (α := EReal) S16x2048x128 2 [⟨S16x2048x8, x⟩, ⟨S16x2048x8, y⟩, ⟨S16x2048x112, z⟩]
        concatenates_S16x2048x8_S16x2048x8_S16x2048x112_S16x2048x128_d2 (ix3 n s l)
      = if h : l.val < 8 then x (ix3 n s ⟨l.val, h⟩)
        else if h : l.val < 16 then y (ix3 n s ⟨l.val - 8, by omega⟩)
        else z (ix3 n s ⟨l.val - 16, by omega⟩) := by
  by_cases h1 : l.val < 8
  · rw [dif_pos h1]
    exact concatenate_apply_piece (t := S16x2048x128) (2 : Fin 3)
      [⟨S16x2048x8, x⟩, ⟨S16x2048x8, y⟩, ⟨S16x2048x112, z⟩] _ (ix3 n s l) 0 (by simp) S16x2048x8 x rfl rfl 0 rfl _
      (fun b hb => match b, hb with | ⟨0, _⟩, _ => rfl | ⟨1, _⟩, _ => rfl | ⟨2, _⟩, hb => absurd rfl hb)
      (Nat.zero_add _)
  rw [dif_neg h1]
  by_cases h2 : l.val < 16
  · rw [dif_pos h2]
    exact concatenate_apply_piece (t := S16x2048x128) (2 : Fin 3)
      [⟨S16x2048x8, x⟩, ⟨S16x2048x8, y⟩, ⟨S16x2048x112, z⟩] _ (ix3 n s l) 1 (by simp) S16x2048x8 y rfl rfl 8 rfl _
      (fun b hb => match b, hb with | ⟨0, _⟩, _ => rfl | ⟨1, _⟩, _ => rfl | ⟨2, _⟩, hb => absurd rfl hb)
      (by show 8 + (l.val - 8) = l.val; omega)
  · rw [dif_neg h2]
    exact concatenate_apply_piece (t := S16x2048x128) (2 : Fin 3)
      [⟨S16x2048x8, x⟩, ⟨S16x2048x8, y⟩, ⟨S16x2048x112, z⟩] _ (ix3 n s l) 2 (by simp) S16x2048x112 z rfl rfl 16 rfl _
      (fun b hb => match b, hb with | ⟨0, _⟩, _ => rfl | ⟨1, _⟩, _ => rfl | ⟨2, _⟩, hb => absurd rfl hb)
      (by show 16 + (l.val - 16) = l.val; omega)

/-- The second result. -/
theorem stat_apply (n : Fin 16) (s : Fin 2048) (l : Fin 128) :
    (val_main_v51 (F := Ideal) q k) (ix3 n s l) = statOf q k n s l := by
  refine (pieces_apply _ _ _ n s l).trans ?_
  unfold statOf
  by_cases h1 : l.val < 8
  · rw [dif_pos h1, dif_pos h1, val_main_v48_apply, ← top_apply]
    exact congrArg _ (funext fun a => match a with | ⟨0, _⟩ => rfl | ⟨1, _⟩ => rfl | ⟨2, _⟩ => rfl)
  rw [dif_neg h1, dif_neg h1]
  by_cases h2 : l.val < 16
  · rw [dif_pos h2, dif_pos h2, val_main_v49_apply, ← total_apply]
    exact congrArg _ (funext fun a => match a with | ⟨0, _⟩ => rfl | ⟨1, _⟩ => rfl | ⟨2, _⟩ => rfl)
  · rw [dif_neg h2, dif_neg h2, val_main_v50_apply, val_main_cst_5_apply]
    show Ideal.ofBits .f32 0x00000000#32 = 0
    simp [Ideal.ofBits, Ideal.ieee]

end Cert.Attn.Ref

end
-- ==== Proof.Ffn.Layer.lean ====
module

public import proofs.«01_k».proof.Defs
public import proofs.«01_k».proof.Proof.Gen.Pre_layer_range
public import proofs.«01_k».proof.Proof.Gen.Pre_layer_range_final
public import proofs.«01_k».proof.Proof.Gen.Kernel2.Flash
public import proofs.«01_k».proof.Proof.Gen.Kernel2Ideal.Flash
public import proofs.«01_k».proof.Proof.Gen.Kernel3.Flash
public import proofs.«01_k».proof.Proof.Gen.Kernel3Ideal.Flash

/-!
# The layer's range names a layer

The precondition says the layer's word lies in `0 .. 3`: it is then the word of one of four layers.
-/

@[expose] public section

noncomputable section

namespace Cert.Ffn

open Idealize.ShloMosaic Idealize.ShloMosaic.TcCoe

/-- A one-word array whose word lies, read signed, in `0 .. 3`. -/
theorem layer_of_range (w : Cert.Pre_layer_range.S1.Idx → BitVec 32) (i j : Cert.Pre_layer_range.S1.Idx)
    (h : IntOp.andi (IntOp.cmpi .sge (w i) 0#32) (IntOp.cmpi .slt (w j) 4#32) = 1#1) :
    ∃ ch : Fin 4, w = fun _ => BitVec.ofNat 32 ch.val := by
  have same : ∀ a b : Cert.Pre_layer_range.S1.Idx, a = b := by decide
  obtain rfl := same i j
  have andBool (p q : Bool) : IntOp.andi (BitVec.ofBool p) (BitVec.ofBool q) = BitVec.ofBool (p && q) := by
    cases p <;> cases q <;> decide
  have isOne (p : Bool) : (BitVec.ofBool p = 1#1) ↔ p = true := by cases p <;> decide
  simp only [IntOp.cmpi, andBool, isOne, Bool.and_eq_true] at h
  obtain ⟨hge, hlt⟩ := h
  have hw : (w i).toNat < 4 := by
    simp only [BitVec.sle, BitVec.slt, decide_eq_true_eq, BitVec.toInt, BitVec.toNat_ofNat] at hge hlt; omega
  refine ⟨⟨_, hw⟩, funext fun y => ?_⟩
  rw [BitVec.ofNat_toNat, BitVec.setWidth_eq]
  exact congrArg w (same _ _)

theorem pinned2 (m : (ℓ : Loc Cert.Kernel2.nD Cert.Kernel2.τ Cert.Kernel2.sig) → Buf (Elt Bits) ℓ) (h : Cert.Pre_Kernel2 m) :
    ∃ ch, Cert.Kernel2.Gen.Pinned ch m := by
  obtain ⟨ch, e⟩ := layer_of_range (m (((0 : Dev Cert.Kernel2.nD) : Thread Cert.Kernel2.nD Cert.Kernel2.τ).loc Cert.Kernel2.main_arg0)) _ _ (congrFun (h 0) fun a => a.elim0)
  refine ⟨ch, fun c => ?_⟩
  obtain rfl : c = 0 := Subsingleton.elim _ _
  exact e

theorem pinned2Ideal (m : (ℓ : Loc Cert.Kernel2Ideal.nD Cert.Kernel2Ideal.τ Cert.Kernel2Ideal.sig) → Buf (Elt Ideal) ℓ)
    (h : Cert.Pre_Kernel2Ideal m) : ∃ ch, Cert.Kernel2Ideal.Gen.Pinned ch m := by
  obtain ⟨ch, e⟩ := layer_of_range (m (((0 : Dev Cert.Kernel2Ideal.nD) : Thread Cert.Kernel2Ideal.nD Cert.Kernel2Ideal.τ).loc Cert.Kernel2Ideal.main_arg0)) _ _ (congrFun (h 0) fun a => a.elim0)
  refine ⟨ch, fun c => ?_⟩
  obtain rfl : c = 0 := Subsingleton.elim _ _
  exact e

theorem pinned3 (m : (ℓ : Loc Cert.Kernel3.nD Cert.Kernel3.τ Cert.Kernel3.sig) → Buf (Elt Bits) ℓ) (h : Cert.Pre_Kernel3 m) :
    ∃ ch, Cert.Kernel3.Gen.Pinned ch m := by
  obtain ⟨ch, e⟩ := layer_of_range (m (((0 : Dev Cert.Kernel3.nD) : Thread Cert.Kernel3.nD Cert.Kernel3.τ).loc Cert.Kernel3.main_arg0)) _ _ (congrFun (h 0) fun a => a.elim0)
  refine ⟨ch, fun c => ?_⟩
  obtain rfl : c = 0 := Subsingleton.elim _ _
  exact e

theorem pinned3Ideal (m : (ℓ : Loc Cert.Kernel3Ideal.nD Cert.Kernel3Ideal.τ Cert.Kernel3Ideal.sig) → Buf (Elt Ideal) ℓ)
    (h : Cert.Pre_Kernel3Ideal m) : ∃ ch, Cert.Kernel3Ideal.Gen.Pinned ch m := by
  obtain ⟨ch, e⟩ := layer_of_range (m (((0 : Dev Cert.Kernel3Ideal.nD) : Thread Cert.Kernel3Ideal.nD Cert.Kernel3Ideal.τ).loc Cert.Kernel3Ideal.main_arg0)) _ _ (congrFun (h 0) fun a => a.elim0)
  refine ⟨ch, fun c => ?_⟩
  obtain rfl : c = 0 := Subsingleton.elim _ _
  exact e

end Cert.Ffn

end
-- ==== Proof.Ffn.Spec.lean ====
module

public import Idealize.ShloMosaic.Lib.Pointwise.Tactic
public import Idealize.ShloMosaic.PureOps.Ideal.Laws

/-!
# The feed-forward step's mathematics

A row is normed, its gate and up products meet in a hidden entry, and half of the hidden row's down product is added to
the row. The kernel halves each hidden entry and adds the 5632 hidden entries in 11 tiles of 512.
-/

@[expose] public section

set_option maxRecDepth 16384

noncomputable section

namespace Cert.Ffn

open Idealize.ShloMosaic

/-- A row of the residual stream, and a row of the hidden layer. -/
abbrev Row := Fin 2048 → EReal
abbrev Hid := Fin 5632 → EReal

/-- The constant under the root, as the printed word has it. -/
abbrev eps : EReal := Ideal.ofBits .f32 0x358637BD#32
/-- The row's length. -/
abbrev len : EReal := Ideal.ofBits .f32 0x45000000#32
/-- One half. -/
abbrev half : EReal := Ideal.ofBits .f32 0x3F000000#32

/-- A row divided by its root mean square, times the gain. -/
def norm (x g : Row) : Row := fun k =>
  x k * Ideal.rsqrt (Ideal.div (∑ e : Fin 2048, x e * x e) len + eps) * g k

/-- A number times its logistic. -/
def silu (t : EReal) : EReal := t * Ideal.div 1 (1 + Ideal.exp (0 - t))

/-- A hidden entry from the normed row and the gate's and the up product's columns. -/
def act (y wg wu : Row) : EReal := silu (∑ e : Fin 2048, y e * wg e) * ∑ e : Fin 2048, y e * wu e

theorem half_value : half = ((1 / 2 : ℝ) : EReal) := by
  simp [half, Ideal.ofBits, Ideal.ieee, -EReal.coe_mul]; norm_num

/-- Half of a sum is the sum of the halves. -/
theorem half_sum {ι : Type} [Fintype ι] (f : ι → EReal) : half * ∑ i, f i = ∑ i, half * f i := by
  classical
  have h0 : (0 : EReal) ≤ half := by rw [half_value]; exact_mod_cast (by norm_num : (0 : ℝ) ≤ 1 / 2)
  have ht : half ≠ ⊤ := by rw [half_value]; exact EReal.coe_ne_top _
  refine Finset.induction_on (motive := fun s => half * ∑ i ∈ s, f i = ∑ i ∈ s, half * f i) Finset.univ (by simp) ?_
  intro a s ha ih
  rw [Finset.sum_insert ha, Finset.sum_insert ha, EReal.left_distrib_of_nonneg_of_ne_top h0 ht, ih]

/-- The step's row: `x + ½ · (hidden row · wd)`. -/
def out (x : Row) (h : Hid) (wd : Fin 5632 → Row) : Row := fun d => x d + half * ∑ f : Fin 5632, h f * wd f d

/-- Column `512 t + f` of tile `t`. -/
abbrev col (t : Fin 11) (f : Fin 512) : Fin 5632 := ⟨512 * t.val + f.val, by omega⟩

/-- What tile `t` adds to entry `d`. -/
def tileSum (h : Hid) (wd : Fin 5632 → Row) (d : Fin 2048) (t : Fin 11) : EReal :=
  ∑ f : Fin 512, h (col t f) * half * wd (col t f) d

/-- The row after the tiles up to `n`. -/
def partialOut (x : Row) (h : Hid) (wd : Fin 5632 → Row) (n : ℕ) : Row := fun d =>
  x d + ∑ t : Fin 11, if t.val ≤ n then tileSum h wd d t else 0

theorem partialOut_zero (x : Row) (h : Hid) (wd : Fin 5632 → Row) (d : Fin 2048) :
    partialOut x h wd 0 d = x d + tileSum h wd d 0 := by
  unfold partialOut
  rw [Fin.sum_univ_succ]
  simp

theorem partialOut_succ (x : Row) (h : Hid) (wd : Fin 5632 → Row) (n : ℕ) (t : Fin 11) (ht : t.val = n + 1) (d : Fin 2048) :
    partialOut x h wd (n + 1) d = partialOut x h wd n d + tileSum h wd d t := by
  unfold partialOut
  rw [add_assoc]
  congr 1
  have e : tileSum h wd d t = ∑ s : Fin 11, if s = t then tileSum h wd d s else 0 := by simp
  rw [e, ← Finset.sum_add_distrib]
  refine Finset.sum_congr rfl fun s _ => ?_
  by_cases h1 : s = t
  · subst h1; rw [if_pos (by omega), if_neg (by omega), if_pos rfl, zero_add]
  · have h2 : s.val ≠ t.val := fun h => h1 (Fin.ext h)
    rw [if_neg h1, add_zero]
    exact if_congr (by omega) rfl rfl

/-- The 11 tiles of 512 are the 5632 columns. -/
theorem sum_tiles (f : Fin 5632 → EReal) : ∑ t : Fin 11, ∑ k : Fin 512, f (col t k) = ∑ i : Fin 5632, f i := by
  rw [← Fintype.sum_prod_type' (f := fun (t : Fin 11) (k : Fin 512) => f (col t k))]
  refine Fintype.sum_equiv (finProdFinEquiv (m := 11) (n := 512)) _ _ fun p => ?_
  exact congrArg f (Fin.ext (by simp [finProdFinEquiv]; omega))

/-- After the last tile the row is the step's. -/
theorem partialOut_last (x : Row) (h : Hid) (wd : Fin 5632 → Row) (d : Fin 2048) :
    partialOut x h wd 10 d = out x h wd d := by
  unfold partialOut out
  rw [half_sum, ← sum_tiles fun i => half * (h i * wd i d)]
  congr 1
  refine Finset.sum_congr rfl fun t _ => ?_
  rw [if_pos (by omega)]
  refine Finset.sum_congr rfl fun f _ => ?_
  rw [mul_comm (h _) half, mul_assoc]

/-- The step's arguments: the rows, and each layer's gain and weights. -/
structure Args where
  x : Fin 32768 → Row
  gain : Fin 4 → Row
  wg : Fin 4 → Fin 2048 → Hid
  wu : Fin 4 → Fin 2048 → Hid
  wd : Fin 4 → Fin 5632 → Row

namespace Args

variable (a : Args) (l : Fin 4) (R : Fin 32768)

/-- Row `R` normed with layer `l`'s gain, and its hidden row. -/
def normed : Row := norm (a.x R) (a.gain l)
def hid : Hid := fun f => act (a.normed l R) (fun e => a.wg l e f) (fun e => a.wu l e f)

/-- Row `R` after the tiles up to `n`, and after the step. -/
def upTo (n : ℕ) : Row := partialOut (a.x R) (a.hid l R) (a.wd l) n
def result : Row := out (a.x R) (a.hid l R) (a.wd l)

theorem upTo_last (d : Fin 2048) : a.upTo l R 10 d = a.result l R d := partialOut_last _ _ _ d

end Args

end Cert.Ffn

end
-- ==== Proof.Ffn.Tile.lean ====
module

public import proofs.«01_k».proof.Proof.Ffn.Spec
public import proofs.«01_k».proof.Proof.Gen.Kernel3Ideal.Skeleton
public import Idealize.ShloMosaic.Lib.Pointwise

/-!
# One tile of the feed-forward kernel, at an entry

The values the kernel stores at a grid point, read at an entry: the normed row, the row plus the tile's down product, and
the final norm.
-/

@[expose] public section

set_option maxRecDepth 16384

noncomputable section

namespace Cert.Ffn

open Idealize.ShloMosaic Idealize.ShloMosaic.TcCoe Idealize.ShloMosaic.Tactic
open Cert.Kernel3Ideal Cert.Kernel3Ideal.Gen

theorem zero2 : (![0, 0] : Fin 2 → ℕ) = fun _ => 0 := by funext d; fin_cases d <;> rfl
theorem zero3 : (![0, 0, 0] : Fin 3 → ℕ) = fun _ => 0 := by funext d; fin_cases d <;> rfl

/-- One store of a whole view, read back. -/
theorem store_read {sig : RefSig} {S : Shape} {e : EltTy} (v : View sig .tc .vmem S e) (f : v.ty.Contents (Elt Ideal)) {off : Fin S.rank → ℕ}
    (h : off = fun _ => 0) (inb : ∀ a, off a + S.size a ≤ S.size a) (w : S.Idx → Elt Ideal e) :
    v.read (Elt Ideal) (v.writes (Elt Ideal) f [⟨Rect.unit off S.size inb, w⟩]) = w := by
  rw [View.read_writes_eq_canon v f _ fun y => ⟨_, List.mem_singleton_self _, View.mem_set_unit_zero h inb y⟩]
  exact View.canon_unit_zero h inb w

/-- The block of rows plus one tile of the hidden layer's down product. -/
def addTile (x : Vec Ideal S1024x2048 .f32) (xn : Vec Ideal S1024x2048 .bf16) (wg wu : Vec Ideal S1x2048x512 .bf16)
    (wd : Vec Ideal S1x512x2048 .bf16) : FVec Ideal S1024x2048 .f32 :=
  k0_pay1 x (k0_pay5 xn wg) (k0_pay6 xn wu) (k0_pay7 xn wg) wd

theorem pay2_eq (x : Vec Ideal S1024x2048 .f32) (xn : Vec Ideal S1024x2048 .bf16) (wg wu : Vec Ideal S1x2048x512 .bf16)
    (wd : Vec Ideal S1x512x2048 .bf16) : k0_pay2 x xn wg wu wd = addTile x xn wg wu wd := by
  unfold k0_pay2
  rw [shapeCast_self]
  rfl

/-- Row `r` of the gate's product. -/
theorem pay5_apply (xn : Vec Ideal S1024x2048 .bf16) (wg : Vec Ideal S1x2048x512 .bf16) (r : Fin 1024) (f : Fin 512) :
    k0_pay5 xn wg (ix2 r f) = ∑ e : Fin 2048, xn (ix2 r e) * wg (ix3 0 e f) := by
  unfold k0_pay5
  pointwise

theorem pay6_apply (xn : Vec Ideal S1024x2048 .bf16) (wu : Vec Ideal S1x2048x512 .bf16) (r : Fin 1024) (f : Fin 512) :
    k0_pay6 xn wu (ix2 r f) = ∑ e : Fin 2048, xn (ix2 r e) * wu (ix3 0 e f) := by
  unfold k0_pay6
  pointwise

theorem pay7_apply (xn : Vec Ideal S1024x2048 .bf16) (wg : Vec Ideal S1x2048x512 .bf16) (r : Fin 1024) (f : Fin 512) :
    k0_pay7 xn wg (ix2 r f) = Ideal.div 1 (1 + Ideal.exp (0 - k0_pay5 xn wg (ix2 r f))) := by
  unfold k0_pay7
  pointwise

theorem addTile_apply (x : Vec Ideal S1024x2048 .f32) (xn : Vec Ideal S1024x2048 .bf16) (wg wu : Vec Ideal S1x2048x512 .bf16)
    (wd : Vec Ideal S1x512x2048 .bf16) (r : Fin 1024) (d : Fin 2048) :
    addTile x xn wg wu wd (ix2 r d) = x (ix2 r d) + ∑ f : Fin 512,
      act (fun e => xn (ix2 r e)) (fun e => wg (ix3 0 e f)) (fun e => wu (ix3 0 e f)) * half * wd (ix3 0 f d) := by
  have key : ∀ (g u s : FVec Ideal S1024x512 .f32), k0_pay1 x g u s wd (ix2 r d)
      = x (ix2 r d) + ∑ f : Fin 512, g (ix2 r f) * s (ix2 r f) * u (ix2 r f) * half * wd (ix3 0 f d) := by
    intro g u s
    unfold k0_pay1
    pointwise
  unfold addTile
  rw [key]
  congr 1
  refine Finset.sum_congr rfl fun f _ => ?_
  rw [pay7_apply, pay5_apply, pay6_apply]
  rfl

theorem pay4_apply (x : Vec Ideal S1024x2048 .f32) (g : Vec Ideal S1x1x2048 .f32) (r : Fin 1024) (k : Fin 2048) :
    k0_pay4 x g (ix2 r k) = norm (fun e => x (ix2 r e)) (fun e => g (ix3 0 0 e)) k := by
  unfold k0_pay4
  rw [shapeCast_self]
  unfold norm
  pointwise

theorem pay3_apply (x : Vec Ideal S1024x2048 .f32) (g : Vec Ideal S1x2048 .f32) (r : Fin 1024) (k : Fin 2048) :
    k0_pay3 x g (ix2 r k) = norm (fun e => x (ix2 r e)) (fun e => g (ix2 0 e)) k := by
  unfold k0_pay3
  rw [shapeCast_self]
  unfold norm
  pointwise

section Blocks

variable (a : Args) (l : Fin 4)

/-- A block holding, for tile `t`, the gate's or the up product's weights, and the down product's. -/
def HoldsUp (w : Fin 4 → Fin 2048 → Hid) (t : Fin 11) (b : S1x2048x512.Idx → EReal) : Prop :=
  ∀ e f, b (ix3 0 e f) = w l e (col t f)
def HoldsDown (t : Fin 11) (b : S1x512x2048.Idx → EReal) : Prop := ∀ f d, b (ix3 0 f d) = a.wd l (col t f) d

/-- The first tile of a row. -/
theorem first_entry {x : Vec Ideal S1024x2048 .f32} {xn : Vec Ideal S1024x2048 .bf16} {wg wu : Vec Ideal S1x2048x512 .bf16}
    {wd : Vec Ideal S1x512x2048 .bf16} {r : Fin 1024} {R : Fin 32768} (hx : ∀ e, x (ix2 r e) = a.x R e)
    (hn : ∀ e, xn (ix2 r e) = a.normed l R e) (hg : HoldsUp l a.wg 0 wg) (hu : HoldsUp l a.wu 0 wu) (hd : HoldsDown a l 0 wd)
    (d : Fin 2048) : addTile x xn wg wu wd (ix2 r d) = a.upTo l R 0 d := by
  rw [addTile_apply, hx, Args.upTo, partialOut_zero]
  simp only [hn, hg _ _, hu _ _, hd _ _]
  rfl

/-- A later tile. -/
theorem later_entry {x : Vec Ideal S1024x2048 .f32} {xn : Vec Ideal S1024x2048 .bf16} {wg wu : Vec Ideal S1x2048x512 .bf16}
    {wd : Vec Ideal S1x512x2048 .bf16} {r : Fin 1024} {R : Fin 32768} {n : ℕ} {t : Fin 11} (ht : t.val = n + 1)
    (d : Fin 2048) (hx : x (ix2 r d) = a.upTo l R n d)
    (hn : ∀ e, xn (ix2 r e) = a.normed l R e) (hg : HoldsUp l a.wg t wg) (hu : HoldsUp l a.wu t wu) (hd : HoldsDown a l t wd) :
    addTile x xn wg wu wd (ix2 r d) = a.upTo l R (n + 1) d := by
  rw [addTile_apply, hx, Args.upTo, Args.upTo, partialOut_succ _ _ _ n t ht]
  simp only [hn, hg _ _, hu _ _, hd _ _]
  rfl

end Blocks

end Cert.Ffn

end
-- ==== Proof.Ffn.PlainRun.lean ====
module

public import proofs.«01_k».proof.Proof.Ffn.Tile
public import proofs.«01_k».proof.Proof.Gen.Kernel2Ideal.Flash.Runs
public import Idealize.ShloMosaic.Lib.Pipeline.ValueKit.Tiles

/-!
# What the plain feed-forward kernel leaves at a grid point

The two paths of the kernel without a final norm: its stored values are those of the kernel with one.
-/

@[expose] public section

set_option maxRecDepth 16384

noncomputable section

namespace Cert.Ffn.Plain

open Idealize.ShloMosaic Idealize.ShloMosaic.TcCoe Idealize.ShloMosaic.Tactic Idealize.SL.Sem
open Cert.Kernel2Ideal Cert.Kernel2Ideal.Gen

/-- The two kernels store the same expressions. -/
theorem normed_eq (x : Vec Ideal S1024x2048 .f32) (g : Vec Ideal S1x1x2048 .f32) : k0_pay3 x g = Cert.Kernel3Ideal.Gen.k0_pay4 x g := rfl
theorem start_eq (x : Vec Ideal S1024x2048 .f32) (xn : Vec Ideal S1024x2048 .bf16) (wg wu : Vec Ideal S1x2048x512 .bf16)
    (wd : Vec Ideal S1x512x2048 .bf16) : k0_pay1 x (k0_pay4 xn wg) (k0_pay5 xn wu) (k0_pay6 xn wg) wd = addTile x xn wg wu wd := rfl
theorem add_eq (x : Vec Ideal S1024x2048 .f32) (xn : Vec Ideal S1024x2048 .bf16) (wg wu : Vec Ideal S1x2048x512 .bf16)
    (wd : Vec Ideal S1x512x2048 .bf16) : k0_pay2 x xn wg wu wd = addTile x xn wg wu wd := by
  unfold k0_pay2
  rw [shapeCast_self]
  rfl

variable (c : Dev nD) (i : grid0.Coords) (arg3 : Memref sig .tc .vmem S1024x2048 .f32) (harg3 : arg3.IsWhole)
  (arg4 : Memref sig .tc .vmem S1x1x2048 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S1024x2048 .f32) (harg8 : arg8.IsWhole)
  (T0 : S1.Idx → Elt Ideal .i32) (x0 : S1024x2048.Idx → Elt Ideal .f32) (x1 : S1x1x2048.Idx → Elt Ideal .f32)
  (x2 x3 : S1x2048x512.Idx → Elt Ideal .bf16) (x4 : S1x512x2048.Idx → Elt Ideal .bf16)
  (xo5 : S1024x2048.Idx → Elt Ideal .f32) (xa0 : S1024x2048.Idx → Elt Ideal .bf16)

section First
variable (h1 : k0_cond1 i = 1#1) (h2 : ¬k0_cond2 i = 1#1)

theorem first_scratch : (kernelRun0_A c i arg3 harg3 arg4 harg4 arg5 harg5 arg6 harg6 arg7 harg7 arg8 harg8 T0 x0 x1 x2 x3 x4 h1 h2).2.1
    = k0_pay3 x0 x1 := by
  unfold kernelRun0_A
  dsimp only
  sl_unfold_words
  simp only [View.readAt_eq_ld, View.read_rep, View.read_whole, harg8.read_unread, View.ld_unit_zero (S := S1024x2048) zero2, View.ld_unit_zero (S := S1x1x2048) zero3]
  have e := store_read (S := S1024x2048) scM0_0.view scM0_0.view.junk zero2 inb_S1024x2048_S1024x2048_0_0 (k0_pay3 x0 x1)
  rw [View.read_whole] at e
  exact e

theorem first_out : out0_A_5 c i arg3 harg3 arg4 harg4 arg5 harg5 arg6 harg6 arg7 harg7 arg8 harg8 T0 x0 x1 x2 x3 x4 h1 h2
    = addTile x0 (k0_pay3 x0 x1) x2 x3 x4 := by
  unfold out0_A_5
  rw [View.read_writes_eq_canon _ _ _ (cover0_A_5 c i arg3 harg3 arg4 harg4 arg5 harg5 arg6 harg6 arg7 harg7 arg8 harg8 T0 x0 x1 x2 x3 x4 h1 h2)]
  unfold kernelRun0_A
  dsimp only
  sl_unfold_words
  simp only [View.readCov_unit_zero (S := S1024x2048) _ zero2, View.readAt_eq_ld, View.read_rep, View.read_whole, harg8.read_unread,
    View.ld_unit_zero (S := S1024x2048) zero2, View.ld_unit_zero (S := S1x2048x512) zero3,
    View.ld_unit_zero (S := S1x512x2048) zero3, View.ld_unit_zero (S := S1x1x2048) zero3]
  exact (View.canon_unit_zero (S := S1024x2048) zero2 _ _).trans (start_eq _ _ _ _ _)

end First

section Later
variable (h1 : ¬k0_cond1 i = 1#1) (h2 : k0_cond2 i = 1#1)

theorem later_scratch : (kernelRun0_B c i arg3 harg3 arg4 harg4 arg5 harg5 arg6 harg6 arg7 harg7 arg8 harg8 T0 x0 x1 x2 x3 x4 xo5 xa0 h1 h2).2.1
    = xa0 := by
  unfold kernelRun0_B
  dsimp only
  done

theorem later_out : out0_B_5 c i arg3 harg3 arg4 harg4 arg5 harg5 arg6 harg6 arg7 harg7 arg8 harg8 T0 x0 x1 x2 x3 x4 xo5 xa0 h1 h2
    = addTile xo5 xa0 x2 x3 x4 := by
  unfold out0_B_5
  rw [View.read_writes_eq_canon _ _ _ (cover0_B_5 c i arg3 harg3 arg4 harg4 arg5 harg5 arg6 harg6 arg7 harg7 arg8 harg8 T0 x0 x1 x2 x3 x4 xo5 xa0 h1 h2)]
  unfold kernelRun0_B
  dsimp only
  sl_unfold_words
  simp only [View.readCov_unit_zero (S := S1024x2048) _ zero2, View.readAt_eq_ld, View.read_rep, View.read_whole, harg8.read_unread,
    View.ld_unit_zero (S := S1024x2048) zero2, View.ld_unit_zero (S := S1x2048x512) zero3,
    View.ld_unit_zero (S := S1x512x2048) zero3]
  exact (View.canon_unit_zero (S := S1024x2048) zero2 _ _).trans (add_eq _ _ _ _ _)

end Later

end Cert.Ffn.Plain

end
-- ==== Proof.Ffn.Walk.lean ====
module

public import proofs.«01_k».proof.Proof.Ffn.Tile

/-!
# The walk over a feed-forward kernel's grid

What the two feed-forward kernels share: the blocks a grid point reads, the rows it leaves, and the induction over the
points, 11 tiles to a block of rows.
-/

@[expose] public section

set_option maxRecDepth 16384

noncomputable section

namespace Cert.Ffn

open Idealize.ShloMosaic
open Cert.Kernel3Ideal Cert.Kernel3Ideal.Gen

/-- An array read where the coordinates say. -/
theorem read2 {A B : ℕ} (X : (⟨2, ![A, B]⟩ : Shape).Idx → EReal) (y : (⟨2, ![A, B]⟩ : Shape).Idx) (i : Fin A) (j : Fin B)
    (h0 : (y 0).val = i.val) (h1 : (y 1).val = j.val) : X y = X (ix2 i j) :=
  congrArg X (funext fun a => match a with
    | ⟨0, _⟩ => Fin.ext h0
    | ⟨1, _⟩ => Fin.ext h1)
theorem read3 {A B C : ℕ} (X : (⟨3, ![A, B, C]⟩ : Shape).Idx → EReal) (y : (⟨3, ![A, B, C]⟩ : Shape).Idx) (i : Fin A) (j : Fin B)
    (k : Fin C) (h0 : (y 0).val = i.val) (h1 : (y 1).val = j.val) (h2 : (y 2).val = k.val) : X y = X (ix3 i j k) :=
  congrArg X (funext fun a => match a with
    | ⟨0, _⟩ => Fin.ext h0
    | ⟨1, _⟩ => Fin.ext h1
    | ⟨2, _⟩ => Fin.ext h2)

/-- The step's arguments, from the arrays. -/
def argsOf (x : S32768x2048.Idx → EReal) (g : S4x1x2048.Idx → EReal) (wg wu : S4x2048x5632.Idx → EReal)
    (wd : S4x5632x2048.Idx → EReal) : Args where
  x R e := x (ix2 R e)
  gain l e := g (ix3 l 0 e)
  wg l e f := wg (ix3 l e f)
  wu l e f := wu (ix3 l e f)
  wd l f d := wd (ix3 l f d)

/-- A block of rows' place in the rows' array, and a layer's block of weights' place in the weights'. -/
def RowsAt (b : ℕ) (p : S1024x2048.Idx → S32768x2048.Idx) : Prop :=
  ∀ y, (p y 0).val = b * 1024 + (y 0).val ∧ (p y 1).val = (y 1).val
def GainAt (l : ℕ) (p : S1x1x2048.Idx → S4x1x2048.Idx) : Prop :=
  ∀ y, (p y 0).val = l ∧ (p y 2).val = (y 2).val
def UpAt (l t : ℕ) (p : S1x2048x512.Idx → S4x2048x5632.Idx) : Prop :=
  ∀ y, (p y 0).val = l ∧ (p y 1).val = (y 1).val ∧ (p y 2).val = t * 512 + (y 2).val
def DownAt (l t : ℕ) (p : S1x512x2048.Idx → S4x5632x2048.Idx) : Prop :=
  ∀ y, (p y 0).val = l ∧ (p y 1).val = t * 512 + (y 1).val ∧ (p y 2).val = (y 2).val

theorem at_block {i b n y : ℕ} (h : i = b) : i * n + y = b * n + y := by rw [h]
theorem at_zero {i n y : ℕ} (h : i = 0) : i * n + y = y := by rw [h, Nat.zero_mul, Nat.zero_add]

/-- The blocks a point reads, at row block `b` and tile `t` of layer `l`. -/
structure Reads (a : Args) (l : Fin 4) (b : Fin 32) (t : Fin 11) (x : S1024x2048.Idx → EReal) (g : S1x1x2048.Idx → EReal)
    (wg wu : S1x2048x512.Idx → EReal) (wd : S1x512x2048.Idx → EReal) : Prop where
  rows : ∀ (r : Fin 1024) (R : Fin 32768), R.val = 1024 * b.val + r.val → ∀ e, x (ix2 r e) = a.x R e
  gain : ∀ e, g (ix3 0 0 e) = a.gain l e
  gate : HoldsUp l a.wg t wg
  up : HoldsUp l a.wu t wu
  down : HoldsDown a l t wd

/-- Blocks that lie in their places. -/
theorem Reads.of_places {l : Fin 4} {b : Fin 32} {t : Fin 11} (X : S32768x2048.Idx → EReal) (G : S4x1x2048.Idx → EReal)
    (WG WU : S4x2048x5632.Idx → EReal) (WD : S4x5632x2048.Idx → EReal) {px pg pwg pwu pwd} (hx : RowsAt b.val px) (hg : GainAt l.val pg)
    (hwg : UpAt l.val t.val pwg) (hwu : UpAt l.val t.val pwu) (hwd : DownAt l.val t.val pwd) :
    Reads (argsOf X G WG WU WD) l b t (fun y => X (px y)) (fun y => G (pg y)) (fun y => WG (pwg y)) (fun y => WU (pwu y)) (fun y => WD (pwd y)) := by
  have up : ∀ (W : S4x2048x5632.Idx → EReal) p, UpAt l.val t.val p → HoldsUp l (fun l e f => W (ix3 l e f)) t (fun y => W (p y)) :=
    fun W p h e f => read3 W _ _ _ _ (h _).1 (h _).2.1 ((h _).2.2.trans (congrArg (· + f.val) (Nat.mul_comm _ _)))
  refine ⟨fun r R hR e => read2 X _ _ _ ((hx _).1.trans ?_) (hx _).2, fun e => read3 G _ _ _ _ (hg _).1 ?_ (hg _).2, up WG _ hwg,
    up WU _ hwu, fun f d => read3 WD _ _ _ _ (hwd _).1 ((hwd _).2.1.trans (congrArg (· + f.val) (Nat.mul_comm _ _))) (hwd _).2.2⟩
  · rw [hR, Nat.mul_comm]; rfl
  · exact congrArg Fin.val (Subsingleton.elim (α := Fin 1) _ _)

/-- What a point leaves in the output block and the scratch: the rows up to its tile, and the normed rows. -/
def Left (a : Args) (l : Fin 4) (b : Fin 32) (n : ℕ) (o : S1024x2048.Idx → EReal) (xn : S1024x2048.Idx → EReal) : Prop :=
  ∀ (r : Fin 1024) (R : Fin 32768), R.val = 1024 * b.val + r.val →
    (∀ k, xn (ix2 r k) = a.normed l R k) ∧ ∀ d, o (ix2 r d) = a.upTo l R n d

variable {a : Args} {l : Fin 4} {b : Fin 32} {t : Fin 11} {x : Vec Ideal S1024x2048 .f32} {g : Vec Ideal S1x1x2048 .f32}
  {wg wu : Vec Ideal S1x2048x512 .bf16} {wd : Vec Ideal S1x512x2048 .bf16}

/-- The first tile of a row block. -/
theorem Reads.first (h : Reads a l b t x g wg wu wd) (h0 : t = 0) :
    Left a l b t.val (addTile x (k0_pay4 x g) wg wu wd) (k0_pay4 x g) := by
  subst h0
  intro r R hR
  have hn : ∀ k, k0_pay4 x g (ix2 r k) = a.normed l R k := fun k =>
    (pay4_apply x g r k).trans (congrArg₂ (fun x g => norm x g k) (funext (h.rows r R hR)) (funext h.gain))
  exact ⟨hn, first_entry a l (h.rows r R hR) hn h.gate h.up h.down⟩

/-- A later tile. -/
theorem Reads.later (h : Reads a l b t x g wg wu wd) {n : ℕ} (ht : t.val = n + 1) {o : Vec Ideal S1024x2048 .f32}
    {xn : Vec Ideal S1024x2048 .bf16} (ho : Left a l b n o xn) : Left a l b t.val (addTile o xn wg wu wd) xn := by
  intro r R hR
  obtain ⟨hn, hx⟩ := ho r R hR
  refine ⟨hn, fun d => ?_⟩
  rw [ht]
  exact later_entry a l ht d (hx d) hn h.gate h.up h.down

/-- After the last tile the output block holds the step's rows; with the final norm, those rows normed. -/
theorem Left.result {o xn : S1024x2048.Idx → EReal} (h : Left a l b 10 o xn) {r : Fin 1024} {R : Fin 32768}
    (hR : R.val = 1024 * b.val + r.val) : (fun d => o (ix2 r d)) = a.result l R :=
  funext fun d => ((h r R hR).2 d).trans (a.upTo_last l R d)

/-- A block of rows, entry by entry, at its place in the array. -/
theorem kept {p : S1024x2048.Idx → S32768x2048.Idx} (hp : RowsAt b.val p) (X : S32768x2048.Idx → EReal) {o : S1024x2048.Idx → EReal}
    (h : ∀ (r : Fin 1024) (R : Fin 32768), R.val = 1024 * b.val + r.val → (fun d => o (ix2 r d)) = fun d => X (ix2 R d))
    (y : S1024x2048.Idx) : o y = X (p y) := by
  obtain ⟨r, d, rfl⟩ : ∃ (r : Fin 1024) (d : Fin 2048), y = ix2 r d := ⟨_, _, (ix2_eta y).symm⟩
  have hb := b.isLt
  obtain ⟨R, hR⟩ : ∃ R : Fin 32768, R.val = 1024 * b.val + r.val := ⟨⟨_, by omega⟩, rfl⟩
  refine (congrFun (h r R hR) d).trans (read2 X _ R d ((hp _).1.trans ?_) (hp _).2).symm
  rw [hR, Nat.mul_comm]
  rfl

/-- A property of what the points leave, from each row block's first tile and from the tile before. -/
theorem walk {N : ℕ} {S : Type} (left : (n : ℕ) → n < N → S) (blk : Fin N → Fin 32) (tile : Fin N → Fin 11)
    (pos : ∀ t : Fin N, t.val = 11 * (blk t).val + (tile t).val) (P : Fin N → S → Prop)
    (first : ∀ t, tile t = 0 → P t (left t.val t.isLt))
    (later : ∀ t s : Fin N, t.val = s.val + 1 → blk s = blk t → (tile t).val = (tile s).val + 1 →
      P s (left s.val s.isLt) → P t (left t.val t.isLt)) (n : ℕ) (h : n < N) : P ⟨n, h⟩ (left n h) := by
  induction n with
  | zero =>
    have e := pos ⟨0, h⟩
    simp only at e
    exact first ⟨0, h⟩ (Fin.ext (show (tile ⟨0, h⟩).val = 0 by omega))
  | succ n ih =>
    have h' : n < N := by omega
    have e := pos ⟨n + 1, h⟩
    have e' := pos ⟨n, h'⟩
    simp only at e e'
    by_cases h0 : (tile ⟨n + 1, h⟩).val = 0
    · exact first ⟨n + 1, h⟩ (Fin.ext h0)
    · exact later ⟨n + 1, h⟩ ⟨n, h'⟩ rfl (Fin.ext (by omega)) (by omega) (ih h')

end Cert.Ffn

end
-- ==== Proof.Ffn.PlainBlocks.lean ====
module

public import proofs.«01_k».proof.Proof.Ffn.PlainRun
public import proofs.«01_k».proof.Proof.Ffn.Walk
public import proofs.«01_k».proof.Proof.Gen.Kernel2Ideal.Flash
public import Idealize.ShloMosaic.Lib.Pipeline.ValueKit.Geometry

/-!
# The blocks a grid point of the plain feed-forward kernel reads

The windows' places over the grid, and from them the blocks.
-/

@[expose] public section

set_option maxRecDepth 16384

noncomputable section

namespace Cert.Ffn.Plain

open Idealize.ShloMosaic Idealize.ShloMosaic.TcCoe Idealize.ShloMosaic.Tactic Idealize.SL.Sem
open Cert.Kernel2Ideal Cert.Kernel2Ideal.Gen

variable (ch : Fin 4) (m : (ℓ : Loc nD τ sig) → Buf (Elt Ideal) ℓ) (ρ : Dev nD → PrngReg) (c : Dev nD)

/-- The step's arguments in the launch memory. -/
def args : Args := argsOf (m ((c : Thread nD τ).loc main_arg1)) (m ((c : Thread nD τ).loc main_arg2)) (m ((c : Thread nD τ).loc main_arg3))
  (m ((c : Thread nD τ).loc main_arg4)) (m ((c : Thread nD τ).loc main_arg5))

/-- A point's row block and its tile of the hidden layer. -/
abbrev rowBlk (t : Fin (cfgA ch).N) : Fin 32 := crd ch t 0
abbrev tile (t : Fin (cfgA ch).N) : Fin 11 := crd ch t 1

/-- The rows' windows, in and out, follow the row block. -/
theorem rows_index : ∀ (ch : Fin 4) (t : Fin (cfgA ch).N),
    (((pcfg0 (F := Ideal)).win (adm ch) 0).index t 0 = (rowBlk ch t).val ∧ ((pcfg0 (F := Ideal)).win (adm ch) 0).index t 1 = 0)
    ∧ ((pcfg0 (F := Ideal)).win (adm ch) 5).index t 0 = (rowBlk ch t).val ∧ ((pcfg0 (F := Ideal)).win (adm ch) 5).index t 1 = 0 :=
  (by decide +kernel : ∀ (ch : Fin 4) (t : Fin grid0.N), _)
/-- The gain's window stays at the layer; the weights' windows follow the tile there. -/
theorem gain_index : ∀ (ch : Fin 4) (t : Fin (cfgA ch).N),
    ((pcfg0 (F := Ideal)).win (adm ch) 1).index t 0 = ch.val ∧ ((pcfg0 (F := Ideal)).win (adm ch) 1).index t 2 = 0 :=
  (by decide +kernel : ∀ (ch : Fin 4) (t : Fin grid0.N), _)
theorem up_index : ∀ (ch : Fin 4) (t : Fin (cfgA ch).N),
    (((pcfg0 (F := Ideal)).win (adm ch) 2).index t 0 = ch.val ∧ ((pcfg0 (F := Ideal)).win (adm ch) 2).index t 1 = 0
      ∧ ((pcfg0 (F := Ideal)).win (adm ch) 2).index t 2 = (tile ch t).val)
    ∧ ((pcfg0 (F := Ideal)).win (adm ch) 3).index t 0 = ch.val ∧ ((pcfg0 (F := Ideal)).win (adm ch) 3).index t 1 = 0
      ∧ ((pcfg0 (F := Ideal)).win (adm ch) 3).index t 2 = (tile ch t).val :=
  (by decide +kernel : ∀ (ch : Fin 4) (t : Fin grid0.N), _)
theorem down_index : ∀ (ch : Fin 4) (t : Fin (cfgA ch).N), ((pcfg0 (F := Ideal)).win (adm ch) 4).index t 0 = ch.val
    ∧ ((pcfg0 (F := Ideal)).win (adm ch) 4).index t 1 = (tile ch t).val ∧ ((pcfg0 (F := Ideal)).win (adm ch) 4).index t 2 = 0 :=
  (by decide +kernel : ∀ (ch : Fin 4) (t : Fin grid0.N), _)

/-- The points go row block by row block; the first path is tile 0's, and a row block is kept after tile 10. -/
theorem pos_eq : ∀ (ch : Fin 4) (t : Fin (cfgA ch).N), t.val = 11 * (rowBlk ch t).val + (tile ch t).val :=
  (by decide +kernel : ∀ (ch : Fin 4) (t : Fin grid0.N), _)
theorem first_iff : ∀ (ch : Fin 4) (t : Fin (cfgA ch).N), P0_0 ch t ↔ tile ch t = 0 :=
  (by decide +kernel : ∀ (ch : Fin 4) (t : Fin grid0.N), _)
theorem flush_last : ∀ (ch : Fin 4) (t : Fin (cfgA ch).N), ((cfgA ch).win 5).flush t = true → tile ch t = 10 :=
  (by decide +kernel : ∀ (ch : Fin 4) (t : Fin grid0.N), _)
theorem cover5 : ∀ ch : Fin 4, ((cfgA ch).win 5).Covers := by decide +kernel

variable (t : Fin (cfgA ch).N)

theorem rowsIn : RowsAt (rowBlk ch t).val ((((cfgA ch).win 0).blk t).view.emb ·) := fun y =>
  ⟨by blk_simp; exact at_block (rows_index ch t).1.1, by blk_simp; exact at_zero (rows_index ch t).1.2⟩
theorem rowsOut : RowsAt (rowBlk ch t).val ((((cfgA ch).win 5).blk t).view.emb ·) := fun y =>
  ⟨by blk_simp; exact at_block (rows_index ch t).2.1, by blk_simp; exact at_zero (rows_index ch t).2.2⟩

theorem reads : Reads (args m c) ch (rowBlk ch t) (tile ch t) (iblk ch m ρ c 0 t) (iblk ch m ρ c 1 t) (iblk ch m ρ c 2 t)
    (iblk ch m ρ c 3 t) (iblk ch m ρ c 4 t) := by
  obtain ⟨g0, g2⟩ := gain_index ch t
  obtain ⟨⟨wg0, wg1, wg2⟩, wu0, wu1, wu2⟩ := up_index ch t
  obtain ⟨wd0, wd1, wd2⟩ := down_index ch t
  refine Reads.of_places (px := ((((cfgA ch).win 0).blk t).view.emb ·)) (pg := ((((cfgA ch).win 1).blk t).view.emb ·))
    (pwg := ((((cfgA ch).win 2).blk t).view.emb ·)) (pwu := ((((cfgA ch).win 3).blk t).view.emb ·))
    (pwd := ((((cfgA ch).win 4).blk t).view.emb ·)) _ _ _ _ _ (rowsIn ch t) (fun y => ⟨?_, ?_⟩) (fun y => ⟨?_, ?_, ?_⟩)
    (fun y => ⟨?_, ?_, ?_⟩) (fun y => ⟨?_, ?_, ?_⟩) <;> blk_simp
  exacts [g0, at_zero g2, wg0, at_zero wg1, at_block wg2, wu0, at_zero wu1, at_block wu2, wd0, at_block wd1, at_zero wd2]

end Cert.Ffn.Plain

end
-- ==== Proof.Ffn.PlainTraj.lean ====
module

public import proofs.«01_k».proof.Proof.Ffn.PlainBlocks

/-!
# The plain feed-forward kernel's output after the run

Every point leaves the rows up to its tile; the last tile's are the step's, and the output array keeps them.
-/

@[expose] public section

set_option maxRecDepth 16384

noncomputable section

namespace Cert.Ffn.Plain

open Idealize.ShloMosaic Idealize.ShloMosaic.TcCoe Idealize.ShloMosaic.Tactic Idealize.SL.Sem
open Cert.Kernel2Ideal Cert.Kernel2Ideal.Gen

variable (ch : Fin 4) (m : (ℓ : Loc nD τ sig) → Buf (Elt Ideal) ℓ) (ρ : Dev nD → PrngReg) (c : Dev nD)

/-- What a point leaves. -/
def After (t : Fin (cfgA ch).N) (p : (S1024x2048.Idx → Elt Ideal .f32) × Buf (Elt Ideal) ((c : Thread nD τ).loc cc0_scratch0)) : Prop :=
  Left (args m c) ch (rowBlk ch t) (tile ch t).val p.1 p.2

theorem after_first (t : Fin (cfgA ch).N) (h0 : tile ch t = 0) : After ch m c t (traj0 ch m ρ c t.val t.isLt) := by
  rw [After, traj0_eq, step0_A ch m ρ c t _ ((first_iff ch t).2 h0)]
  dsimp only
  rw [first_scratch, first_out, normed_eq]
  exact (reads ch m ρ c t).first h0

theorem after_later (t s : Fin (cfgA ch).N) (hs : t.val = s.val + 1) (hb : rowBlk ch s = rowBlk ch t)
    (ht : (tile ch t).val = (tile ch s).val + 1) (ih : After ch m c s (traj0 ch m ρ c s.val s.isLt)) :
    After ch m c t (traj0 ch m ρ c t.val t.isLt) := by
  have hp : prev0 ch m ρ c t = traj0 ch m ρ c s.val s.isLt := by
    unfold prev0
    rw [dif_neg (by omega)]
    simp only [show t.val - 1 = s.val by omega]
  have h0 : ¬P0_0 ch t := fun h => absurd (ht.symm.trans (congrArg Fin.val ((first_iff ch t).1 h))) (by simp)
  rw [After, hb] at ih
  rw [After, traj0_eq, hp, step0_B ch m ρ c t _ h0]
  dsimp only
  rw [later_scratch, later_out]
  exact (reads ch m ρ c t).later ht ih

/-- The output array after the run. -/
def outAll (y : S32768x2048.Idx) : EReal := (args m c).result ch (y 0) (y 1)

theorem out_run : (dats ch m ρ 0 c).arrAt 5 (cfgA ch).N = outAll ch m c := by
  refine (dats ch m ρ 0 c).arrAt_eq_of_covers 5 _ (cover5 ch) fun t hf y => ?_
  blk_simp
  rw [after0_5]
  have h := walk (traj0 ch m ρ c) (rowBlk ch) (tile ch) (pos_eq ch) (After ch m c) (after_first ch m ρ c) (after_later ch m ρ c) t.val t.isLt
  rw [After, flush_last ch t hf] at h
  exact kept (rowsOut ch t) (outAll ch m c) (fun r R hR => h.result hR) y

end Cert.Ffn.Plain

end
-- ==== Proof.Ffn.StepReference.lean ====
module

public import proofs.«01_k».proof.Proof.Ffn.Spec
public import proofs.«01_k».proof.Proof.Gen.Reference3Ideal.Read
public import Idealize.ShloMosaic.Lib.Pointwise

/-!
# The feed-forward step's reference, at an entry

The reference picks the layer's gain and weights by comparing the layer's word, norms the rows and takes the products
over whole rows.
-/

@[expose] public section

set_option maxRecDepth 16384

noncomputable section

namespace Cert.Ffn.Ref

open Idealize.ShloMosaic Idealize.ShloMosaic.TcCoe Idealize.ShloMosaic.Tactic
open Cert.Reference3Ideal Cert.Reference3Ideal.Gen Cert.Reference3Ideal.Read

/-- The index of a rank-0 array. -/
abbrev pt : S_.Idx := fun i => i.elim0

/-- A choice by a rank-0 word, at an entry. -/
theorem pick_apply {S : Shape} {α : Type} (hb : S_.BroadcastsInDim S ![]) (p : IVec S_ 1) (a b : S.Idx → α) (y : S.Idx) :
    select (broadcastInDim S ![] hb p) a b y = if p pt = 1 then a y else b y := by
  show (if broadcastInDim S ![] hb p y = 1 then a y else b y) = _
  rw [broadcastInDim_apply ![] hb p y pt fun i => i.elim0]

/-- The array of one word, the layer's. -/
abbrev word (ch : Fin 4) : S1.Idx → BitVec 32 := fun _ => BitVec.ofNat 32 ch.val

variable (ch : Fin 4)

theorem is1 : val_main_v2 (F := Ideal) (word ch) pt = 1 ↔ ch = 1 := by
  show IntOp.cmpi .eq (BitVec.ofNat 32 ch.val) 1#32 = 1#1 ↔ ch = 1
  revert ch; decide
theorem is2 : val_main_v3 (F := Ideal) (word ch) pt = 1 ↔ ch = 2 := by
  show IntOp.cmpi .eq (BitVec.ofNat 32 ch.val) 2#32 = 1#1 ↔ ch = 2
  revert ch; decide
theorem is3 : val_main_v4 (F := Ideal) (word ch) pt = 1 ↔ ch = 3 := by
  show IntOp.cmpi .eq (BitVec.ofNat 32 ch.val) 3#32 = 1#1 ↔ ch = 3
  revert ch; decide

/-- The chain of three choices is the layer's entry. -/
theorem chosen {S : Shape} (hb : S_.BroadcastsInDim S ![]) (d0 d1 d2 d3 : S.Idx → EReal) (y : S.Idx) (f : Fin 4 → EReal)
    (e0 : d0 y = f 0) (e1 : d1 y = f 1) (e2 : d2 y = f 2) (e3 : d3 y = f 3) :
    select (broadcastInDim S ![] hb (val_main_v4 (F := Ideal) (word ch))) d3
      (select (broadcastInDim S ![] hb (val_main_v3 (F := Ideal) (word ch))) d2
        (select (broadcastInDim S ![] hb (val_main_v2 (F := Ideal) (word ch))) d1 d0)) y = f ch := by
  rw [pick_apply, pick_apply, pick_apply, if_congr (is3 ch) rfl rfl, if_congr (is2 ch) rfl rfl, if_congr (is1 ch) rfl rfl, e0, e1, e2, e3]
  fin_cases ch <;> rfl

variable (x1 : S32768x2048.Idx → EReal) (x2 : S4x1x2048.Idx → EReal) (x3 x4 : S4x2048x5632.Idx → EReal) (x5 : S4x5632x2048.Idx → EReal)
  (x6 : S1x2048.Idx → EReal)

/-- The step's arguments, from the arrays. -/
abbrev argsOf : Args where
  x R e := x1 (ix2 R e)
  gain l e := x2 (ix3 l 0 e)
  wg l e f := x3 (ix3 l e f)
  wu l e f := x4 (ix3 l e f)
  wd l f d := x5 (ix3 l f d)

theorem gain_apply (k : Fin 2048) : val_main_v16 (F := Ideal) (word ch) x2 (ix1 k) = x2 (ix3 ch 0 k) := by
  have h := k.isLt
  refine chosen ch bcast_S_S2048 (val_main_v7 (F := Ideal) x2) (val_main_v9 (F := Ideal) x2) (val_main_v12 (F := Ideal) x2)
    (val_main_v15 (F := Ideal) x2) (ix1 k) (fun l => x2 (ix3 l 0 k)) ?_ ?_ ?_ ?_
  on_goal 1 => rw [val_main_v7_apply, val_main_v6_apply, val_main_v5_apply]
  on_goal 2 => rw [val_main_v9_apply, val_main_v8_apply, val_main_v5_apply]
  on_goal 3 => rw [val_main_v12_apply, val_main_v11_apply, val_main_v5_apply]
  on_goal 4 => rw [val_main_v15_apply, val_main_v14_apply, val_main_v5_apply]
  all_goals exact congrArg x2 (funext fun a => match a with
    | ⟨0, _⟩ => Fin.ext (by simp <;> omega)
    | ⟨1, _⟩ => Fin.ext (by simp)
    | ⟨2, _⟩ => Fin.ext (by simp <;> omega))

theorem up_apply (e : Fin 2048) (f : Fin 5632) : val_main_v40 (F := Ideal) (word ch) x3 (ix2 e f) = x3 (ix3 ch e f) := by
  have he := e.isLt
  have hf := f.isLt
  refine chosen ch bcast_S_S2048x5632 (val_main_v31 (F := Ideal) x3) (val_main_v33 (F := Ideal) x3) (val_main_v36 (F := Ideal) x3)
    (val_main_v39 (F := Ideal) x3) (ix2 e f) (fun l => x3 (ix3 l e f)) ?_ ?_ ?_ ?_
  on_goal 1 => rw [val_main_v31_apply, val_main_v30_apply]
  on_goal 2 => rw [val_main_v33_apply, val_main_v32_apply]
  on_goal 3 => rw [val_main_v36_apply, val_main_v35_apply]
  on_goal 4 => rw [val_main_v39_apply, val_main_v38_apply]
  all_goals exact congrArg x3 (funext fun a => match a with
    | ⟨0, _⟩ => rfl
    | ⟨1, _⟩ => Fin.ext (by simp <;> omega)
    | ⟨2, _⟩ => Fin.ext (by simp <;> omega))

theorem up_eq : val_main_v52 (F := Ideal) (word ch) x4 = val_main_v40 (F := Ideal) (word ch) x4 := rfl

theorem down_apply (f : Fin 5632) (d : Fin 2048) : val_main_v64 (F := Ideal) (word ch) x5 (ix2 f d) = x5 (ix3 ch f d) := by
  have hf := f.isLt
  have hd := d.isLt
  refine chosen ch bcast_S_S5632x2048 (val_main_v55 (F := Ideal) x5) (val_main_v57 (F := Ideal) x5) (val_main_v60 (F := Ideal) x5)
    (val_main_v63 (F := Ideal) x5) (ix2 f d) (fun l => x5 (ix3 l f d)) ?_ ?_ ?_ ?_
  on_goal 1 => rw [val_main_v55_apply, val_main_v54_apply]
  on_goal 2 => rw [val_main_v57_apply, val_main_v56_apply]
  on_goal 3 => rw [val_main_v60_apply, val_main_v59_apply]
  on_goal 4 => rw [val_main_v63_apply, val_main_v62_apply]
  all_goals exact congrArg x5 (funext fun a => match a with
    | ⟨0, _⟩ => rfl
    | ⟨1, _⟩ => Fin.ext (by simp <;> omega)
    | ⟨2, _⟩ => Fin.ext (by simp <;> omega))

theorem zero_word : Ideal.ofBits .f32 0x00000000#32 = 0 := by simp [Ideal.ofBits, Ideal.ieee]
theorem one_word : Ideal.ofBits .f32 0x3F800000#32 = 1 := by simp [Ideal.ofBits, Ideal.ieee, -EReal.coe_mul]; norm_num

theorem normed_apply (R : Fin 32768) (k : Fin 2048) :
    val_main_v29 (F := Ideal) (word ch) x1 x2 (ix2 R k) = (argsOf x1 x2 x3 x4 x5).normed ch R k := by
  have i18 : ∀ e, idx_main_v18 (ix1 R) e = ix2 R e := fun e => funext fun a => match a with | ⟨0, _⟩ => rfl | ⟨1, _⟩ => rfl
  have hs : val_main_v18 (F := Ideal) x1 (ix1 R) = ∑ e : Fin 2048, x1 (ix2 R e) * x1 (ix2 R e) := by
    rw [val_main_v18_apply]
    refine (congrArg (· + _) zero_word).trans ((zero_add _).trans (Finset.sum_congr rfl fun e _ => ?_))
    rw [i18, val_main_v17_apply]
    rfl
  have i28 : idx_main_v27 (idx_main_v28 (ix2 R k)) = ix1 k := funext fun a => match a with | ⟨0, _⟩ => rfl
  have i25 : idx_main_v19 (idx_main_v25 (ix2 R k)) = ix1 R := funext fun a => match a with | ⟨0, _⟩ => rfl
  rw [val_main_v29_apply, val_main_v26_apply, val_main_v28_apply, val_main_v27_apply, i28, gain_apply, val_main_v25_apply, val_main_v24_apply,
    val_main_v23_apply, val_main_v21_apply, val_main_v19_apply, i25, hs]
  rfl

theorem hid_apply (R : Fin 32768) (f : Fin 5632) :
    val_main_v75 (F := Ideal) (word ch) x1 x2 x3 x4 (ix2 R f) = (argsOf x1 x2 x3 x4 x5).hid ch R f := by
  have hg : val_main_v66 (F := Ideal) (word ch) x1 x2 x3 (ix2 R f)
      = ∑ e : Fin 2048, (argsOf x1 x2 x3 x4 x5).normed ch R e * x3 (ix3 ch e f) := by
    rw [val_main_v66_apply]
    refine Finset.sum_congr rfl fun e _ => congrArg₂ (· * ·) ?_ ?_
    · exact (congrArg _ (funext fun a => match a with | ⟨0, _⟩ => rfl | ⟨1, _⟩ => rfl)).trans (normed_apply ch x1 x2 x3 x4 x5 R e)
    · exact (congrArg (val_main_v40 (F := Ideal) (word ch) x3) (funext fun a => match a with | ⟨0, _⟩ => rfl | ⟨1, _⟩ => rfl)).trans (up_apply ch x3 e f)
  have hu : val_main_v74 (F := Ideal) (word ch) x1 x2 x4 (ix2 R f)
      = ∑ e : Fin 2048, (argsOf x1 x2 x3 x4 x5).normed ch R e * x4 (ix3 ch e f) := by
    rw [val_main_v74_apply]
    refine Finset.sum_congr rfl fun e _ => congrArg₂ (· * ·) ?_ ?_
    · exact (congrArg _ (funext fun a => match a with | ⟨0, _⟩ => rfl | ⟨1, _⟩ => rfl)).trans (normed_apply ch x1 x2 x3 x4 x5 R e)
    · exact (congrArg (val_main_v40 (F := Ideal) (word ch) x4) (funext fun a => match a with | ⟨0, _⟩ => rfl | ⟨1, _⟩ => rfl)).trans (up_apply ch x4 e f)
  rw [val_main_v75_apply, val_main_v73_apply, val_main_v72_apply, val_main_v70_apply, val_main_v68_apply, val_main_v67_apply, hg, hu,
    val_main_v71_apply, val_main_v69_apply, val_main_cst_5_apply, val_main_cst_6_apply]
  unfold Args.hid act silu
  rw [zero_sub, ← one_word]
  rfl

theorem step_apply (R : Fin 32768) (d : Fin 2048) :
    val_main_v79 (F := Ideal) (word ch) x1 x2 x3 x4 x5 (ix2 R d) = (argsOf x1 x2 x3 x4 x5).result ch R d := by
  rw [val_main_v79_apply, val_main_v78_apply, val_main_v76_apply, val_main_v77_apply]
  refine congrArg (x1 (ix2 R d) + ·) (congrArg (half * ·) (Finset.sum_congr rfl fun f _ => congrArg₂ (· * ·) ?_ ?_))
  · exact (congrArg _ (funext fun a => match a with | ⟨0, _⟩ => rfl | ⟨1, _⟩ => rfl)).trans (hid_apply ch x1 x2 x3 x4 x5 R f)
  · exact (congrArg (val_main_v64 (F := Ideal) (word ch) x5) (funext fun a => match a with | ⟨0, _⟩ => rfl | ⟨1, _⟩ => rfl)).trans (down_apply ch x5 f d)

/-- The step, and in the last layer the final norm of its rows. -/
theorem final_apply (R : Fin 32768) (d : Fin 2048) :
    val_main_v94 (F := Ideal) (word ch) x1 x2 x3 x4 x5 x6 (ix2 R d)
      = if ch = 3 then norm ((argsOf x1 x2 x3 x4 x5).result ch R) (fun e => x6 (ix2 0 e)) d else (argsOf x1 x2 x3 x4 x5).result ch R d := by
  have i82 : ∀ e, idx_main_v82 (ix1 R) e = ix2 R e := fun e => funext fun a => match a with | ⟨0, _⟩ => rfl | ⟨1, _⟩ => rfl
  have hs : val_main_v82 (F := Ideal) (word ch) x1 x2 x3 x4 x5 (ix1 R)
      = ∑ e : Fin 2048, (argsOf x1 x2 x3 x4 x5).result ch R e * (argsOf x1 x2 x3 x4 x5).result ch R e := by
    rw [val_main_v82_apply]
    refine (congrArg (· + _) zero_word).trans ((zero_add _).trans (Finset.sum_congr rfl fun e _ => ?_))
    rw [i82, val_main_v81_apply, step_apply]
    rfl
  have i92 : idx_main_v91 (idx_main_v92 (ix2 R d)) = ix1 d := funext fun a => match a with | ⟨0, _⟩ => rfl
  have i89 : idx_main_v83 (idx_main_v89 (ix2 R d)) = ix1 R := funext fun a => match a with | ⟨0, _⟩ => rfl
  have hd := d.isLt
  have i80 : idx_main_v80 (ix1 d) = ix2 0 d := funext fun a => match a with | ⟨0, _⟩ => rfl | ⟨1, _⟩ => Fin.ext (by simp <;> omega)
  refine (pick_apply bcast_S_S32768x2048 (val_main_v4 (F := Ideal) (word ch)) (val_main_v93 (F := Ideal) (word ch) x1 x2 x3 x4 x5 x6)
    (val_main_v79 (F := Ideal) (word ch) x1 x2 x3 x4 x5) (ix2 R d)).trans (if_congr (is3 ch) ?_ (step_apply ch x1 x2 x3 x4 x5 R d))
  rw [val_main_v93_apply, val_main_v90_apply, val_main_v92_apply, val_main_v91_apply, i92, val_main_v80_apply, i80, val_main_v89_apply,
    val_main_v88_apply, val_main_v87_apply, val_main_v85_apply, val_main_v83_apply, i89, hs, step_apply]
  rfl

end Cert.Ffn.Ref

end
-- ==== Proof.Ffn.PlainClaim.lean ====
module

public import proofs.«01_k».proof.Proof.Ffn.Layer
public import proofs.«01_k».proof.Proof.Ffn.PlainTraj
public import proofs.«01_k».proof.Proof.Ffn.StepReference
public import proofs.«01_k».proof.Proof.Gen.Reference2Ideal.Run
public import proofs.«01_k».proof.Proof.Gen.Reference2Ideal.Read

/-!
# The plain feed-forward call's claims
-/

@[expose] public section

noncomputable section

namespace Cert.Ffn

open Idealize.ShloMosaic Idealize.SL.Sem

section Same

open Cert.Reference2Ideal Cert.Reference2Ideal.Read

variable (x0 : S1.Idx → BitVec 32) (x1 : S32768x2048.Idx → EReal) (x2 : S4x1x2048.Idx → EReal) (x3 x4 : S4x2048x5632.Idx → EReal)
  (x5 : S4x5632x2048.Idx → EReal)

/-- The two references take the same step. -/
theorem step_eq : val_main_v79 (F := Ideal) x0 x1 x2 x3 x4 x5 = Cert.Reference3Ideal.Read.val_main_v79 (F := Ideal) x0 x1 x2 x3 x4 x5 := rfl

end Same

/-- The reference runs, keeps its arguments and ends with every counter at zero: it declares no semaphore. -/
theorem frame_reference2 : Cert.quiescent_Reference2Ideal (hReference2Ideal := Cert.Reference2Ideal.Gen.facts)
    (hPre_layer_range := Cert.Pre_layer_range.Gen.facts) := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel and the reference leave the same rows, whichever the layer. -/
theorem algebraic2 : Cert.algebraic_Kernel2Ideal_Reference2Ideal (hKernel2Ideal := Cert.Kernel2Ideal.Gen.facts)
    (hReference2Ideal := Cert.Reference2Ideal.Gen.facts) (hPre_layer_range := Cert.Pre_layer_range.Gen.facts) := by
  intro m g m' g' hpre hargs
  obtain ⟨ch, hp⟩ := pinned2Ideal m hpre
  refine ⟨fun c => Plain.outAll ch m c, ?_, ?_⟩
  · refine (θ_run Cert.Kernel2Ideal.defs _ _).mono (fun r h c => ?_)
      (θ_run_and (Cert.Kernel2Ideal.Gen.run_main ch m g hp) (Cert.Kernel2Ideal.Gen.unchanged ch m g hp))
    exact ⟨((h.1 c).1 5).trans (Plain.out_run ch m g c), h.2 c⟩
  · refine (θ_run Cert.Reference2Ideal.defs _ _).mono (fun r h c => ?_) (Cert.Reference2Ideal.Value.run m' g')
    obtain ⟨hv, hkeep⟩ := h c
    obtain ⟨a0, a1, a2, a3, a4, a5⟩ := hargs c
    refine ⟨hv.trans ?_, hkeep⟩
    rw [Cert.Reference2Ideal.Read.val_main_v79_eq, a0, a1, a2, a3, a4, a5, hp c]
    refine (step_eq _ _ _ _ _ _).trans (funext fun y => ?_)
    obtain ⟨R, d, rfl⟩ : ∃ (R : Fin 32768) (d : Fin 2048), y = ix2 R d := ⟨y 0, y 1, (ix2_eta y).symm⟩
    exact Ref.step_apply ch _ _ _ _ _ R d

end Cert.Ffn

end
-- ==== Proof.Ffn.FinalRun.lean ====
module

public import proofs.«01_k».proof.Proof.Ffn.Tile
public import proofs.«01_k».proof.Proof.Gen.Kernel3Ideal.Flash.Runs
public import Idealize.ShloMosaic.Lib.Pipeline.ValueKit.Tiles

/-!
# What the final-norm feed-forward kernel leaves at a grid point

By path: the first tile norms the rows into the scratch and starts the sum; a later tile adds to what the output block
held; the last tile of the last layer norms the finished rows.
-/

@[expose] public section

set_option maxRecDepth 16384

noncomputable section

namespace Cert.Ffn.Final

open Idealize.ShloMosaic Idealize.ShloMosaic.TcCoe Idealize.ShloMosaic.Tactic Idealize.SL.Sem
open Cert.Kernel3Ideal Cert.Kernel3Ideal.Gen

variable (c : Dev nD) (i : grid0.Coords) (arg3 : Memref sig .tc .vmem S1024x2048 .f32) (harg3 : arg3.IsWhole)
  (arg4 : Memref sig .tc .vmem S1x1x2048 .f32) (harg4 : arg4.IsWhole) (arg5 : Memref sig .tc .vmem S1x2048x512 .bf16) (harg5 : arg5.IsWhole)
  (arg6 : Memref sig .tc .vmem S1x2048x512 .bf16) (harg6 : arg6.IsWhole) (arg7 : Memref sig .tc .vmem S1x512x2048 .bf16) (harg7 : arg7.IsWhole)
  (arg8 : Memref sig .tc .vmem S1x2048 .f32) (harg8 : arg8.IsWhole) (arg9 : Memref sig .tc .vmem S1024x2048 .f32) (harg9 : arg9.IsWhole)
  (T0 : S1.Idx → Elt Ideal .i32) (x0 : S1024x2048.Idx → Elt Ideal .f32) (x1 : S1x1x2048.Idx → Elt Ideal .f32)
  (x2 x3 : S1x2048x512.Idx → Elt Ideal .bf16) (x4 : S1x512x2048.Idx → Elt Ideal .bf16) (x5 : S1x2048.Idx → Elt Ideal .f32)
  (xo6 : S1024x2048.Idx → Elt Ideal .f32) (xa0 : S1024x2048.Idx → Elt Ideal .bf16)

/-- The layer word a grid point reads. -/
abbrev word (T0 : S1.Idx → Elt Ideal .i32) : Elt Ideal .i32 :=
  View.readAt (Elt Ideal) tbM0_0.view (Rect.unit (s := S1) ![0] S1.size inb_S1_S1_0).toLoadRect T0 (Shape.Idx.first (numel1_S1.symm ▸ Nat.one_pos))

section First
variable (h1 : k0_cond1 i = 1#1) (h2 : ¬k0_cond2 i = 1#1) (h3 : ¬k0_cond3 i (word T0) = 1#1)

theorem first_scratch : (kernelRun0_A c i arg3 harg3 arg4 harg4 arg5 harg5 arg6 harg6 arg7 harg7 arg8 harg8 arg9 harg9 T0 x0 x1 x2 x3 x4 x5 h1 h2 h3).2.1
    = k0_pay4 x0 x1 := by
  unfold kernelRun0_A
  dsimp only
  sl_unfold_words
  simp only [View.readAt_eq_ld, View.read_rep, View.read_whole, harg9.read_unread, View.ld_unit_zero (S := S1024x2048) zero2, View.ld_unit_zero (S := S1x1x2048) zero3]
  have e := store_read (S := S1024x2048) scM0_0.view scM0_0.view.junk zero2 inb_S1024x2048_S1024x2048_0_0 (k0_pay4 x0 x1)
  rw [View.read_whole] at e
  exact e

theorem first_out : out0_A_6 c i arg3 harg3 arg4 harg4 arg5 harg5 arg6 harg6 arg7 harg7 arg8 harg8 arg9 harg9 T0 x0 x1 x2 x3 x4 x5 h1 h2 h3
    = addTile x0 (k0_pay4 x0 x1) x2 x3 x4 := by
  unfold out0_A_6
  rw [View.read_writes_eq_canon _ _ _ (cover0_A_6 c i arg3 harg3 arg4 harg4 arg5 harg5 arg6 harg6 arg7 harg7 arg8 harg8 arg9 harg9 T0 x0 x1 x2 x3 x4 x5 h1 h2 h3)]
  unfold kernelRun0_A
  dsimp only
  sl_unfold_words
  simp only [View.readCov_unit_zero (S := S1024x2048) _ zero2, View.readAt_eq_ld, View.read_rep, View.read_whole, harg9.read_unread,
    View.ld_unit_zero (S := S1024x2048) zero2, View.ld_unit_zero (S := S1x2048x512) zero3,
    View.ld_unit_zero (S := S1x512x2048) zero3, View.ld_unit_zero (S := S1x1x2048) zero3]
  exact View.canon_unit_zero (S := S1024x2048) zero2 _ _

end First

section Later
variable (h1 : ¬k0_cond1 i = 1#1) (h2 : k0_cond2 i = 1#1) (h3 : ¬k0_cond3 i (word T0) = 1#1)

theorem later_scratch : (kernelRun0_B c i arg3 harg3 arg4 harg4 arg5 harg5 arg6 harg6 arg7 harg7 arg8 harg8 arg9 harg9 T0 x0 x1 x2 x3 x4 x5 xo6 xa0 h1 h2 h3).2.1
    = xa0 := by
  unfold kernelRun0_B
  dsimp only
  done

theorem later_out : out0_B_6 c i arg3 harg3 arg4 harg4 arg5 harg5 arg6 harg6 arg7 harg7 arg8 harg8 arg9 harg9 T0 x0 x1 x2 x3 x4 x5 xo6 xa0 h1 h2 h3
    = addTile xo6 xa0 x2 x3 x4 := by
  unfold out0_B_6
  rw [View.read_writes_eq_canon _ _ _ (cover0_B_6 c i arg3 harg3 arg4 harg4 arg5 harg5 arg6 harg6 arg7 harg7 arg8 harg8 arg9 harg9 T0 x0 x1 x2 x3 x4 x5 xo6 xa0 h1 h2 h3)]
  unfold kernelRun0_B
  dsimp only
  sl_unfold_words
  simp only [View.readCov_unit_zero (S := S1024x2048) _ zero2, View.readAt_eq_ld, View.read_rep, View.read_whole, harg9.read_unread,
    View.ld_unit_zero (S := S1024x2048) zero2, View.ld_unit_zero (S := S1x2048x512) zero3,
    View.ld_unit_zero (S := S1x512x2048) zero3]
  exact (View.canon_unit_zero (S := S1024x2048) zero2 _ _).trans (pay2_eq _ _ _ _ _)

end Later

section Last
variable (h1 : ¬k0_cond1 i = 1#1) (h2 : k0_cond2 i = 1#1) (h3 : k0_cond3 i (word T0) = 1#1)

theorem last_scratch : (kernelRun0_C c i arg3 harg3 arg4 harg4 arg5 harg5 arg6 harg6 arg7 harg7 arg8 harg8 arg9 harg9 T0 x0 x1 x2 x3 x4 x5 xo6 xa0 h1 h2 h3).2.1
    = xa0 := by
  unfold kernelRun0_C
  dsimp only
  done

theorem last_out : out0_C_6 c i arg3 harg3 arg4 harg4 arg5 harg5 arg6 harg6 arg7 harg7 arg8 harg8 arg9 harg9 T0 x0 x1 x2 x3 x4 x5 xo6 xa0 h1 h2 h3
    = k0_pay3 (addTile xo6 xa0 x2 x3 x4) x5 := by
  unfold out0_C_6
  rw [View.read_writes_eq_canon _ _ _ (cover0_C_6 c i arg3 harg3 arg4 harg4 arg5 harg5 arg6 harg6 arg7 harg7 arg8 harg8 arg9 harg9 T0 x0 x1 x2 x3 x4 x5 xo6 xa0 h1 h2 h3)]
  unfold kernelRun0_C
  dsimp only
  sl_unfold_words
  simp only [View.readCov_unit_zero (S := S1024x2048) _ zero2, View.readAt_eq_ld, View.read_rep, View.read_whole, harg9.read_unread,
    View.ld_unit_zero (S := S1024x2048) zero2, View.ld_unit_zero (S := S1x2048x512) zero3,
    View.ld_unit_zero (S := S1x512x2048) zero3, View.ld_unit_zero (S := S1x2048) zero2]
  refine (View.canon_cons_unit_zero (S := S1024x2048) zero2 _ _ _).trans ?_
  rw [pay2_eq]

end Last

end Cert.Ffn.Final

end
-- ==== Proof.Ffn.FinalBlocks.lean ====
module

public import proofs.«01_k».proof.Proof.Ffn.FinalRun
public import proofs.«01_k».proof.Proof.Ffn.Walk
public import proofs.«01_k».proof.Proof.Gen.Kernel3Ideal.Flash
public import Idealize.ShloMosaic.Lib.Pipeline.ValueKit.Geometry

/-!
# The blocks a grid point of the final-norm feed-forward kernel reads

Where each window's block lies in its argument, and the control's decisions over the grid.
-/

@[expose] public section

set_option maxRecDepth 16384

noncomputable section

namespace Cert.Ffn.Final

open Idealize.ShloMosaic Idealize.ShloMosaic.TcCoe Idealize.ShloMosaic.Tactic Idealize.SL.Sem
open Cert.Kernel3Ideal Cert.Kernel3Ideal.Gen

variable (ch : Fin 4) (m : (ℓ : Loc nD τ sig) → Buf (Elt Ideal) ℓ) (ρ : Dev nD → PrngReg) (c : Dev nD)

/-- The step's arguments in the launch memory, and the final gain. -/
def args : Args := argsOf (m ((c : Thread nD τ).loc main_arg1)) (m ((c : Thread nD τ).loc main_arg2)) (m ((c : Thread nD τ).loc main_arg3))
  (m ((c : Thread nD τ).loc main_arg4)) (m ((c : Thread nD τ).loc main_arg5))
def finalGain : Row := fun e => m ((c : Thread nD τ).loc main_arg6) (ix2 0 e)

/-- A point's row block and its tile of the hidden layer. -/
abbrev rowBlk (t : Fin (cfgA ch).N) : Fin 32 := crd ch t 0
abbrev tile (t : Fin (cfgA ch).N) : Fin 11 := crd ch t 1

theorem index0 : ∀ (ch : Fin 4) (t : Fin (cfgA ch).N), ((pcfg0 (F := Ideal)).win (adm ch) 0).index t 0 = (rowBlk ch t).val ∧ ((pcfg0 (F := Ideal)).win (adm ch) 0).index t 1 = 0 :=
  (by decide +kernel : ∀ (ch : Fin 4) (t : Fin grid0.N), _)
theorem index1 : ∀ (ch : Fin 4) (t : Fin (cfgA ch).N), ((pcfg0 (F := Ideal)).win (adm ch) 1).index t 0 = ch.val ∧ ((pcfg0 (F := Ideal)).win (adm ch) 1).index t 1 = 0 ∧ ((pcfg0 (F := Ideal)).win (adm ch) 1).index t 2 = 0 :=
  (by decide +kernel : ∀ (ch : Fin 4) (t : Fin grid0.N), _)
theorem index2 : ∀ (ch : Fin 4) (t : Fin (cfgA ch).N), ((pcfg0 (F := Ideal)).win (adm ch) 2).index t 0 = ch.val ∧ ((pcfg0 (F := Ideal)).win (adm ch) 2).index t 1 = 0 ∧ ((pcfg0 (F := Ideal)).win (adm ch) 2).index t 2 = (tile ch t).val :=
  (by decide +kernel : ∀ (ch : Fin 4) (t : Fin grid0.N), _)
theorem index3 : ∀ (ch : Fin 4) (t : Fin (cfgA ch).N), ((pcfg0 (F := Ideal)).win (adm ch) 3).index t 0 = ch.val ∧ ((pcfg0 (F := Ideal)).win (adm ch) 3).index t 1 = 0 ∧ ((pcfg0 (F := Ideal)).win (adm ch) 3).index t 2 = (tile ch t).val :=
  (by decide +kernel : ∀ (ch : Fin 4) (t : Fin grid0.N), _)
theorem index4 : ∀ (ch : Fin 4) (t : Fin (cfgA ch).N), ((pcfg0 (F := Ideal)).win (adm ch) 4).index t 0 = ch.val ∧ ((pcfg0 (F := Ideal)).win (adm ch) 4).index t 1 = (tile ch t).val ∧ ((pcfg0 (F := Ideal)).win (adm ch) 4).index t 2 = 0 :=
  (by decide +kernel : ∀ (ch : Fin 4) (t : Fin grid0.N), _)
theorem index5 : ∀ (ch : Fin 4) (t : Fin (cfgA ch).N), ((pcfg0 (F := Ideal)).win (adm ch) 5).index t 0 = 0 ∧ ((pcfg0 (F := Ideal)).win (adm ch) 5).index t 1 = 0 :=
  (by decide +kernel : ∀ (ch : Fin 4) (t : Fin grid0.N), _)
theorem index6 : ∀ (ch : Fin 4) (t : Fin (cfgA ch).N), ((pcfg0 (F := Ideal)).win (adm ch) 6).index t 0 = (rowBlk ch t).val ∧ ((pcfg0 (F := Ideal)).win (adm ch) 6).index t 1 = 0 :=
  (by decide +kernel : ∀ (ch : Fin 4) (t : Fin grid0.N), _)

/-- The first tile is tile 0; the last of the last layer is tile 10. -/
theorem first_iff : ∀ (ch : Fin 4) (t : Fin (cfgA ch).N), P0_0 ch t ↔ tile ch t = 0 :=
  (by decide +kernel : ∀ (ch : Fin 4) (t : Fin grid0.N), _)
theorem last_iff : ∀ (ch : Fin 4) (t : Fin (cfgA ch).N), P0_1 ch t ↔ (ch = 3 ∧ tile ch t = 10) :=
  (by decide +kernel : ∀ (ch : Fin 4) (t : Fin grid0.N), _)
theorem pos_eq : ∀ (ch : Fin 4) (t : Fin (cfgA ch).N), t.val = 11 * (rowBlk ch t).val + (tile ch t).val :=
  (by decide +kernel : ∀ (ch : Fin 4) (t : Fin grid0.N), _)
theorem flush_last : ∀ (ch : Fin 4) (t : Fin (cfgA ch).N), ((cfgA ch).win 6).flush t = true → tile ch t = 10 :=
  (by decide +kernel : ∀ (ch : Fin 4) (t : Fin grid0.N), _)

theorem cover6 : ∀ ch : Fin 4, ((cfgA ch).win 6).Covers := by decide +kernel

variable (t : Fin (cfgA ch).N)

/-- A block of rows lies at its row block, in the input and in the output. -/
theorem rowsIn : RowsAt (rowBlk ch t).val ((((cfgA ch).win 0).blk t).view.emb ·) := fun y =>
  ⟨by blk_simp; exact at_block (index0 ch t).1, by blk_simp; exact at_zero (index0 ch t).2⟩
theorem rowsOut : RowsAt (rowBlk ch t).val ((((cfgA ch).win 6).blk t).view.emb ·) := fun y =>
  ⟨by blk_simp; exact at_block (index6 ch t).1, by blk_simp; exact at_zero (index6 ch t).2⟩

theorem reads : Reads (args m c) ch (rowBlk ch t) (tile ch t) (iblk ch m ρ c 0 t) (iblk ch m ρ c 1 t) (iblk ch m ρ c 2 t)
    (iblk ch m ρ c 3 t) (iblk ch m ρ c 4 t) := by
  obtain ⟨g0, _, g2⟩ := index1 ch t
  obtain ⟨wg0, wg1, wg2⟩ := index2 ch t
  obtain ⟨wu0, wu1, wu2⟩ := index3 ch t
  obtain ⟨wd0, wd1, wd2⟩ := index4 ch t
  refine Reads.of_places (px := ((((cfgA ch).win 0).blk t).view.emb ·)) (pg := ((((cfgA ch).win 1).blk t).view.emb ·))
    (pwg := ((((cfgA ch).win 2).blk t).view.emb ·)) (pwu := ((((cfgA ch).win 3).blk t).view.emb ·))
    (pwd := ((((cfgA ch).win 4).blk t).view.emb ·)) _ _ _ _ _ (rowsIn ch t) (fun y => ⟨?_, ?_⟩) (fun y => ⟨?_, ?_, ?_⟩)
    (fun y => ⟨?_, ?_, ?_⟩) (fun y => ⟨?_, ?_, ?_⟩) <;> blk_simp
  exacts [g0, at_zero g2, wg0, at_zero wg1, at_block wg2, wu0, at_zero wu1, at_block wu2, wd0, at_block wd1, at_zero wd2]

theorem holdsFinal (e : Fin 2048) : iblk ch m ρ c 5 t (ix2 0 e) = finalGain m c e := by
  have i := index5 ch t
  refine read2 (A := 1) (B := 2048) (m ((c : Thread nD τ).loc main_arg6)) ((((cfgA ch).win 5).blk t).view.emb (ix2 0 e)) 0 e ?_ ?_
  · blk_simp; simp; exact i.1
  · blk_simp; simp; exact i.2

end Cert.Ffn.Final

end
-- ==== Proof.Ffn.FinalTraj.lean ====
module

public import proofs.«01_k».proof.Proof.Ffn.FinalBlocks

/-!
# The final-norm feed-forward kernel's output after the run

Point by point: the scratch holds the block's normed rows and the output block the rows up to the tile; the last tile's
block, normed with the final gain in the last layer, is what the output array keeps.
-/

@[expose] public section

set_option maxRecDepth 16384

noncomputable section

namespace Cert.Ffn.Final

open Idealize.ShloMosaic Idealize.ShloMosaic.TcCoe Idealize.ShloMosaic.Tactic Idealize.SL.Sem
open Cert.Kernel3Ideal Cert.Kernel3Ideal.Gen

variable (ch : Fin 4) (m : (ℓ : Loc nD τ sig) → Buf (Elt Ideal) ℓ) (ρ : Dev nD → PrngReg) (c : Dev nD)

/-- The rows the call returns: in the last layer the step's rows normed, else the step's rows. -/
def rowOut (R : Fin 32768) : Row :=
  if ch = 3 then norm ((args m c).result ch R) (finalGain m c) else (args m c).result ch R

/-- What a point leaves: at the last tile of the last layer the finished rows, else the rows up to the tile. -/
def After (t : Fin (cfgA ch).N) (p : (S1024x2048.Idx → Elt Ideal .f32) × Buf (Elt Ideal) ((c : Thread nD τ).loc cc0_scratch0)) : Prop :=
  if ch = 3 ∧ tile ch t = 10 then
    ∀ (r : Fin 1024) (R : Fin 32768), R.val = 1024 * (rowBlk ch t).val + r.val → (fun d => p.1 (ix2 r d)) = rowOut ch m c R
  else Left (args m c) ch (rowBlk ch t) (tile ch t).val p.1 p.2

theorem after_first (t : Fin (cfgA ch).N) (h0 : tile ch t = 0) : After ch m c t (traj0 ch m ρ c t.val t.isLt) := by
  rw [After, if_neg fun h => absurd (h0.symm.trans h.2) (by decide), traj0_eq, step0_A ch m ρ c t _ ((first_iff ch t).2 h0)]
  dsimp only
  rw [first_scratch, first_out]
  exact (reads ch m ρ c t).first h0

theorem after_later (t s : Fin (cfgA ch).N) (hs : t.val = s.val + 1) (hb : rowBlk ch s = rowBlk ch t)
    (ht : (tile ch t).val = (tile ch s).val + 1) (ih : After ch m c s (traj0 ch m ρ c s.val s.isLt)) :
    After ch m c t (traj0 ch m ρ c t.val t.isLt) := by
  have hp : prev0 ch m ρ c t = traj0 ch m ρ c s.val s.isLt := by
    unfold prev0
    rw [dif_neg (by omega)]
    simp only [show t.val - 1 = s.val by omega]
  have h0 : ¬P0_0 ch t := fun h => absurd (ht.symm.trans (congrArg Fin.val ((first_iff ch t).1 h))) (by simp)
  have hlt := (tile ch t).isLt
  rw [After, if_neg fun h => by have e : (tile ch s).val = 10 := congrArg Fin.val h.2; omega, hb] at ih
  have hsum := (reads ch m ρ c t).later ht ih
  rw [traj0_eq, hp, After]
  by_cases h1 : P0_1 ch t
  · obtain ⟨hc, h10⟩ := (last_iff ch t).1 h1
    rw [if_pos ⟨hc, h10⟩, step0_C ch m ρ c t _ h0 h1]
    dsimp only
    rw [h10] at hsum
    intro r R hR
    funext d
    rw [last_out, pay3_apply, rowOut, if_pos hc]
    exact congrArg₂ (fun z g => norm z g d) (hsum.result hR) (funext fun e => holdsFinal ch m ρ c t e)
  · rw [if_neg fun h => h1 ((last_iff ch t).2 h), step0_B ch m ρ c t _ h0 h1]
    dsimp only
    rw [later_scratch, later_out]
    exact hsum

/-- The output array after the run. -/
def outAll (y : S32768x2048.Idx) : EReal := rowOut ch m c (y 0) (y 1)

theorem out_run : (dats ch m ρ 0 c).arrAt 6 (cfgA ch).N = outAll ch m c := by
  refine (dats ch m ρ 0 c).arrAt_eq_of_covers 6 _ (cover6 ch) fun t hf y => ?_
  blk_simp
  rw [after0_6]
  have h := walk (traj0 ch m ρ c) (rowBlk ch) (tile ch) (pos_eq ch) (After ch m c) (after_first ch m ρ c) (after_later ch m ρ c) t.val t.isLt
  have h10 := flush_last ch t hf
  refine kept (rowsOut ch t) (outAll ch m c) (fun r R hR => ?_) y
  rw [After] at h
  by_cases hc : ch = 3
  · rw [if_pos ⟨hc, h10⟩] at h
    exact h r R hR
  · rw [if_neg fun h => hc h.1, h10] at h
    exact (h.result hR).trans (if_neg hc : rowOut ch m c R = _).symm

end Cert.Ffn.Final

end
-- ==== Proof.Ffn.FinalClaim.lean ====
module

public import proofs.«01_k».proof.Proof.Ffn.Layer
public import proofs.«01_k».proof.Proof.Ffn.FinalTraj
public import proofs.«01_k».proof.Proof.Ffn.StepReference
public import proofs.«01_k».proof.Proof.Gen.Reference3Ideal.Run

/-!
# The final-norm feed-forward call's claims
-/

@[expose] public section

noncomputable section

namespace Cert.Ffn

open Idealize.ShloMosaic Idealize.SL.Sem

/-- The reference runs, keeps its arguments and ends with every counter at zero: it declares no semaphore. -/
theorem frame_reference3 : Cert.quiescent_Reference3Ideal (hReference3Ideal := Cert.Reference3Ideal.Gen.facts)
    (hPre_layer_range_final := Cert.Pre_layer_range_final.Gen.facts) := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The kernel and the reference leave the same rows, whichever the layer. -/
theorem algebraic3 : Cert.algebraic_Kernel3Ideal_Reference3Ideal (hKernel3Ideal := Cert.Kernel3Ideal.Gen.facts)
    (hReference3Ideal := Cert.Reference3Ideal.Gen.facts) (hPre_layer_range_final := Cert.Pre_layer_range_final.Gen.facts) := by
  intro m g m' g' hpre hargs
  obtain ⟨ch, hp⟩ := pinned3Ideal m hpre
  refine ⟨fun c => Final.outAll ch m c, ?_, ?_⟩
  · refine (θ_run Cert.Kernel3Ideal.defs _ _).mono (fun r h c => ?_)
      (θ_run_and (Cert.Kernel3Ideal.Gen.run_main ch m g hp) (Cert.Kernel3Ideal.Gen.unchanged ch m g hp))
    exact ⟨((h.1 c).1 6).trans (Final.out_run ch m g c), h.2 c⟩
  · refine (θ_run Cert.Reference3Ideal.defs _ _).mono (fun r h c => ?_) (Cert.Reference3Ideal.Value.run m' g')
    obtain ⟨hv, hkeep⟩ := h c
    obtain ⟨a0, a1, a2, a3, a4, a5, a6⟩ := hargs c
    refine ⟨hv.trans ?_, hkeep⟩
    rw [Cert.Reference3Ideal.Read.val_main_v94_eq, a0, a1, a2, a3, a4, a5, a6, hp c]
    refine funext fun y => ?_
    obtain ⟨R, d, rfl⟩ : ∃ (R : Fin 32768) (d : Fin 2048), y = ix2 R d := ⟨y 0, y 1, (ix2_eta y).symm⟩
    refine (Ref.final_apply ch _ _ _ _ _ _ R d).trans ?_
    show _ = Final.rowOut ch m c R d
    unfold Final.rowOut
    split <;> rfl

end Cert.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Flash
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Flash
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Flash
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Flash
public import proofs.«01_k».proof.Proof.Gen.Reference3Ideal
public import proofs.«01_k».proof.Proof.Gen.Pre_layer_range
public import proofs.«01_k».proof.Proof.Gen.Pre_layer_range_final
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Attn.Arrays
public import proofs.«01_k».proof.Proof.Attn.Reference
public import proofs.«01_k».proof.Proof.Ffn.PlainClaim
public import proofs.«01_k».proof.Proof.Ffn.FinalClaim
public import Idealize.ShloMosaic.Adequacy
public import Idealize.ShloMosaic.Init

@[expose] public section

noncomputable section

namespace Cert.Proof

open Idealize.ShloMosaic Idealize.SL.Sem Cert.Kernel

/-- The mask's constant stands for `⊥`. -/
theorem preserves_attn : Cert.preserves_Kernel_KernelIdeal :=
  IdealRules.named_const.statement Cert.KernelIdeal.κ "masked" .f32 0xF149F2CA#32 ⊥ rfl

/-- The attention kernel and its reference compute the same two arrays. -/
theorem algebraic_attn : Cert.algebraic_KernelIdeal_ReferenceIdeal (hKernelIdeal := Cert.KernelIdeal.Gen.facts)
    (hReferenceIdeal := Cert.ReferenceIdeal.Gen.facts) := by
  intro m g m' g' _ hargs
  refine ⟨fun c => Cert.Attn.accAll m c, fun c => Cert.Attn.stAll m c, ?_, ?_⟩
  · refine (θ_run Cert.KernelIdeal.defs _ _).mono (fun r h c => ?_) (Cert.KernelIdeal.Value.run_blocks m g)
    obtain ⟨h7, h8, h0, h1, h2⟩ := h c
    exact ⟨h7.trans (Cert.Attn.acc_run m c), h8.trans (Cert.Attn.st_run m c), h0, h1, h2⟩
  · refine (θ_run Cert.ReferenceIdeal.defs _ _).mono (fun r h c => ?_) (Cert.ReferenceIdeal.Value.run m' g')
    obtain ⟨h47, h51, h0, h1, h2⟩ := h c
    obtain ⟨a0, a1, a2⟩ := hargs c
    refine ⟨h47.trans ?_, h51.trans ?_, h0, h1, h2⟩
    · rw [Cert.ReferenceIdeal.Read.val_main_v47_eq, a0, a1, a2]
      refine funext fun y => ?_
      obtain ⟨n, p, s, d, rfl⟩ : ∃ (n : Fin 16) (p : Fin 4) (s : Fin 2048) (d : Fin 128), y = ix4 n p s d :=
        ⟨y 0, y 1, y 2, y 3, (ix4_eta y).symm⟩
      exact Cert.Attn.Ref.acc_apply _ _ _ n p s d
    · rw [Cert.ReferenceIdeal.Read.val_main_v51_eq, a0, a1]
      refine funext fun y => ?_
      obtain ⟨n, s, l, rfl⟩ : ∃ (n : Fin 16) (s : Fin 2048) (l : Fin 128), y = ix3 n s l :=
        ⟨y 0, y 1, y 2, (ix3_eta y).symm⟩
      exact Cert.Attn.Ref.stat_apply _ _ n s l

/-- The attention's reference runs, keeps its arguments and ends with every counter at zero: it declares no semaphore. -/
theorem frame_attn_reference : Cert.quiescent_ReferenceIdeal (hReferenceIdeal := Cert.ReferenceIdeal.Gen.facts) := by
  intro m ρ _
  exact (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The attention's claims, then the plain and the final-norm feed-forward call's. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Pre_layer_range.Gen.facts, Cert.Pre_layer_range_final.Gen.facts,
  fun m ρ _ => Cert.Kernel.Gen.frame m ρ, fun m ρ _ => Cert.KernelIdeal.Gen.frame m ρ, frame_attn_reference,
  fun m ρ h => (Cert.Ffn.pinned2 m h).elim fun ch hp => Cert.Kernel2.Gen.frame ch m ρ hp,
  fun m ρ h => (Cert.Ffn.pinned2Ideal m h).elim fun ch hp => Cert.Kernel2Ideal.Gen.frame ch m ρ hp, Cert.Ffn.frame_reference2,
  fun m ρ h => (Cert.Ffn.pinned3 m h).elim fun ch hp => Cert.Kernel3.Gen.frame ch m ρ hp,
  fun m ρ h => (Cert.Ffn.pinned3Ideal m h).elim fun ch hp => Cert.Kernel3Ideal.Gen.frame ch m ρ hp, Cert.Ffn.frame_reference3,
  preserves_attn, algebraic_attn, trivial, Cert.Ffn.algebraic2, trivial, Cert.Ffn.algebraic3⟩

end Cert.Proof

end
